-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelRefIdeal (m : (ℓ : Loc Cert.KernelRefIdeal.nD Cert.KernelRefIdeal.τ Cert.KernelRefIdeal.sig) → Buf (Elt Ideal) ℓ) : Prop :=
  True

def Pre_KernelRefIdeal_finite_args [hPre_finite_args : Cert.Pre_finite_args.Facts] (m : (ℓ : Loc Cert.KernelRefIdeal.nD Cert.KernelRefIdeal.τ Cert.KernelRefIdeal.sig) → Buf (Elt Ideal) ℓ) : Prop :=
  ∀ c : Dev Cert.KernelRefIdeal.nD,
    (Cert.Pre_finite_args.fn (F := Ideal) (m ((c.tc : Thread Cert.KernelRefIdeal.nD Cert.KernelRefIdeal.τ).loc Cert.KernelRefIdeal.main_arg0)) (m ((c.tc : Thread Cert.KernelRefIdeal.nD Cert.KernelRefIdeal.τ).loc Cert.KernelRefIdeal.main_arg1)) (m ((c.tc : Thread Cert.KernelRefIdeal.nD Cert.KernelRefIdeal.τ).loc Cert.KernelRefIdeal.main_arg2)) (m ((c.tc : Thread Cert.KernelRefIdeal.nD Cert.KernelRefIdeal.τ).loc Cert.KernelRefIdeal.main_arg3))) = (fun _ => 1#1)

def Pre_Policy (m : (ℓ : Loc Cert.Policy.nD Cert.Policy.τ Cert.Policy.sig) → Buf (Elt Bits) ℓ) : Prop :=
  True

def Pre_PolicyIdeal (m : (ℓ : Loc Cert.PolicyIdeal.nD Cert.PolicyIdeal.τ Cert.PolicyIdeal.sig) → Buf (Elt Ideal) ℓ) : Prop :=
  True

def Pre_PolicyIdeal_finite [hPre_finite : Cert.Pre_finite.Facts] (m : (ℓ : Loc Cert.PolicyIdeal.nD Cert.PolicyIdeal.τ Cert.PolicyIdeal.sig) → Buf (Elt Ideal) ℓ) : Prop :=
  ∀ c : Dev Cert.PolicyIdeal.nD,
    (Cert.Pre_finite.fn (F := Ideal) (m ((c.tc : Thread Cert.PolicyIdeal.nD Cert.PolicyIdeal.τ).loc Cert.PolicyIdeal.main_arg0)) (m ((c.tc : Thread Cert.PolicyIdeal.nD Cert.PolicyIdeal.τ).loc Cert.PolicyIdeal.main_arg1)) (m ((c.tc : Thread Cert.PolicyIdeal.nD Cert.PolicyIdeal.τ).loc Cert.PolicyIdeal.main_arg2)) (m ((c.tc : Thread Cert.PolicyIdeal.nD Cert.PolicyIdeal.τ).loc Cert.PolicyIdeal.main_arg3))) = (fun _ => 1#1)

def Pre_PolicyRefIdeal (m : (ℓ : Loc Cert.PolicyRefIdeal.nD Cert.PolicyRefIdeal.τ Cert.PolicyRefIdeal.sig) → Buf (Elt Ideal) ℓ) : Prop :=
  True

def Pre_PolicyRefIdeal_finite [hPre_finite : Cert.Pre_finite.Facts] (m : (ℓ : Loc Cert.PolicyRefIdeal.nD Cert.PolicyRefIdeal.τ Cert.PolicyRefIdeal.sig) → Buf (Elt Ideal) ℓ) : Prop :=
  ∀ c : Dev Cert.PolicyRefIdeal.nD,
    (Cert.Pre_finite.fn (F := Ideal) (m ((c.tc : Thread Cert.PolicyRefIdeal.nD Cert.PolicyRefIdeal.τ).loc Cert.PolicyRefIdeal.main_arg0)) (m ((c.tc : Thread Cert.PolicyRefIdeal.nD Cert.PolicyRefIdeal.τ).loc Cert.PolicyRefIdeal.main_arg1)) (m ((c.tc : Thread Cert.PolicyRefIdeal.nD Cert.PolicyRefIdeal.τ).loc Cert.PolicyRefIdeal.main_arg2)) (m ((c.tc : Thread Cert.PolicyRefIdeal.nD Cert.PolicyRefIdeal.τ).loc Cert.PolicyRefIdeal.main_arg3))) = (fun _ => 1#1)

def Pre_Argmax (m : (ℓ : Loc Cert.Argmax.nD Cert.Argmax.τ Cert.Argmax.sig) → Buf (Elt Bits) ℓ) : Prop :=
  True

def Pre_ArgmaxIdeal (m : (ℓ : Loc Cert.ArgmaxIdeal.nD Cert.ArgmaxIdeal.τ Cert.ArgmaxIdeal.sig) → Buf (Elt Ideal) ℓ) : Prop :=
  True

def Pre_ArgmaxRefIdeal (m : (ℓ : Loc Cert.ArgmaxRefIdeal.nD Cert.ArgmaxRefIdeal.τ Cert.ArgmaxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelRefIdeal [hKernelRefIdeal : Cert.KernelRefIdeal.Facts] : Prop :=
  ∀ (m : (ℓ : Loc Cert.KernelRefIdeal.nD Cert.KernelRefIdeal.τ Cert.KernelRefIdeal.sig) → Buf (Elt Ideal) ℓ) (g : Dev Cert.KernelRefIdeal.nD → PrngReg), Pre_KernelRefIdeal m →
    θ_run (Cert.KernelRefIdeal.defs (F := Ideal)) (onTc (τ := Cert.KernelRefIdeal.τ) (Cert.KernelRefIdeal.main (F := Ideal))) ⟨m, fun _ => 0, g⟩ (fun r => (∀ c : Dev Cert.KernelRefIdeal.nD,
      r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0)
      ∧ r.2.mem ((c.tc : Thread Cert.KernelRefIdeal.nD Cert.KernelRefIdeal.τ).loc Cert.KernelRefIdeal.main_arg1) = m ((c.tc : Thread Cert.KernelRefIdeal.nD Cert.KernelRefIdeal.τ).loc Cert.KernelRefIdeal.main_arg1)
      ∧ r.2.mem ((c.tc : Thread Cert.KernelRefIdeal.nD Cert.KernelRefIdeal.τ).loc Cert.KernelRefIdeal.main_arg2) = m ((c.tc : Thread Cert.KernelRefIdeal.nD Cert.KernelRefIdeal.τ).loc Cert.KernelRefIdeal.main_arg2)
      ∧ r.2.mem ((c.tc : Thread Cert.KernelRefIdeal.nD Cert.KernelRefIdeal.τ).loc Cert.KernelRefIdeal.main_arg3) = m ((c.tc : Thread Cert.KernelRefIdeal.nD Cert.KernelRefIdeal.τ).loc Cert.KernelRefIdeal.main_arg3))
      ∧ r.2.sem = fun _ => 0)

def quiescent_KernelRefIdeal_pre_finite_args [hKernelRefIdeal : Cert.KernelRefIdeal.Facts] [hPre_finite_args : Cert.Pre_finite_args.Facts] : Prop :=
  ∀ (m : (ℓ : Loc Cert.KernelRefIdeal.nD Cert.KernelRefIdeal.τ Cert.KernelRefIdeal.sig) → Buf (Elt Ideal) ℓ) (g : Dev Cert.KernelRefIdeal.nD → PrngReg), Pre_KernelRefIdeal_finite_args m →
    θ_run (Cert.KernelRefIdeal.defs (F := Ideal)) (onTc (τ := Cert.KernelRefIdeal.τ) (Cert.KernelRefIdeal.main (F := Ideal))) ⟨m, fun _ => 0, g⟩ (fun r => (∀ c : Dev Cert.KernelRefIdeal.nD,
      r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0)
      ∧ r.2.mem ((c.tc : Thread Cert.KernelRefIdeal.nD Cert.KernelRefIdeal.τ).loc Cert.KernelRefIdeal.main_arg1) = m ((c.tc : Thread Cert.KernelRefIdeal.nD Cert.KernelRefIdeal.τ).loc Cert.KernelRefIdeal.main_arg1)
      ∧ r.2.mem ((c.tc : Thread Cert.KernelRefIdeal.nD Cert.KernelRefIdeal.τ).loc Cert.KernelRefIdeal.main_arg2) = m ((c.tc : Thread Cert.KernelRefIdeal.nD Cert.KernelRefIdeal.τ).loc Cert.KernelRefIdeal.main_arg2)
      ∧ r.2.mem ((c.tc : Thread Cert.KernelRefIdeal.nD Cert.KernelRefIdeal.τ).loc Cert.KernelRefIdeal.main_arg3) = m ((c.tc : Thread Cert.KernelRefIdeal.nD Cert.KernelRefIdeal.τ).loc Cert.KernelRefIdeal.main_arg3))
      ∧ r.2.sem = fun _ => 0)

def quiescent_Policy [hPolicy : Cert.Policy.Facts] : Prop :=
  ∀ (m : (ℓ : Loc Cert.Policy.nD Cert.Policy.τ Cert.Policy.sig) → Buf (Elt Bits) ℓ) (g : Dev Cert.Policy.nD → PrngReg), Pre_Policy m →
    θ_run (Cert.Policy.defs (F := Bits)) (onTc (τ := Cert.Policy.τ) (Cert.Policy.main (F := Bits))) ⟨m, fun _ => 0, g⟩ (fun r => (∀ c : Dev Cert.Policy.nD,
      r.2.mem ((c.tc : Thread Cert.Policy.nD Cert.Policy.τ).loc Cert.Policy.main_arg0) = m ((c.tc : Thread Cert.Policy.nD Cert.Policy.τ).loc Cert.Policy.main_arg0)
      ∧ r.2.mem ((c.tc : Thread Cert.Policy.nD Cert.Policy.τ).loc Cert.Policy.main_arg1) = m ((c.tc : Thread Cert.Policy.nD Cert.Policy.τ).loc Cert.Policy.main_arg1)
      ∧ r.2.mem ((c.tc : Thread Cert.Policy.nD Cert.Policy.τ).loc Cert.Policy.main_arg2) = m ((c.tc : Thread Cert.Policy.nD Cert.Policy.τ).loc Cert.Policy.main_arg2)
      ∧ r.2.mem ((c.tc : Thread Cert.Policy.nD Cert.Policy.τ).loc Cert.Policy.main_arg3) = m ((c.tc : Thread Cert.Policy.nD Cert.Policy.τ).loc Cert.Policy.main_arg3))
      ∧ r.2.sem = fun _ => 0)

def quiescent_PolicyIdeal [hPolicyIdeal : Cert.PolicyIdeal.Facts] : Prop :=
  ∀ (m : (ℓ : Loc Cert.PolicyIdeal.nD Cert.PolicyIdeal.τ Cert.PolicyIdeal.sig) → Buf (Elt Ideal) ℓ) (g : Dev Cert.PolicyIdeal.nD → PrngReg), Pre_PolicyIdeal m →
    θ_run (Cert.PolicyIdeal.defs (F := Ideal)) (onTc (τ := Cert.PolicyIdeal.τ) (Cert.PolicyIdeal.main (F := Ideal))) ⟨m, fun _ => 0, g⟩ (fun r => (∀ c : Dev Cert.PolicyIdeal.nD,
      r.2.mem ((c.tc : Thread Cert.PolicyIdeal.nD Cert.PolicyIdeal.τ).loc Cert.PolicyIdeal.main_arg0) = m ((c.tc : Thread Cert.PolicyIdeal.nD Cert.PolicyIdeal.τ).loc Cert.PolicyIdeal.main_arg0)
      ∧ r.2.mem ((c.tc : Thread Cert.PolicyIdeal.nD Cert.PolicyIdeal.τ).loc Cert.PolicyIdeal.main_arg1) = m ((c.tc : Thread Cert.PolicyIdeal.nD Cert.PolicyIdeal.τ).loc Cert.PolicyIdeal.main_arg1)
      ∧ r.2.mem ((c.tc : Thread Cert.PolicyIdeal.nD Cert.PolicyIdeal.τ).loc Cert.PolicyIdeal.main_arg2) = m ((c.tc : Thread Cert.PolicyIdeal.nD Cert.PolicyIdeal.τ).loc Cert.PolicyIdeal.main_arg2)
      ∧ r.2.mem ((c.tc : Thread Cert.PolicyIdeal.nD Cert.PolicyIdeal.τ).loc Cert.PolicyIdeal.main_arg3) = m ((c.tc : Thread Cert.PolicyIdeal.nD Cert.PolicyIdeal.τ).loc Cert.PolicyIdeal.main_arg3))
      ∧ r.2.sem = fun _ => 0)

def quiescent_PolicyIdeal_pre_finite [hPolicyIdeal : Cert.PolicyIdeal.Facts] [hPre_finite : Cert.Pre_finite.Facts] : Prop :=
  ∀ (m : (ℓ : Loc Cert.PolicyIdeal.nD Cert.PolicyIdeal.τ Cert.PolicyIdeal.sig) → Buf (Elt Ideal) ℓ) (g : Dev Cert.PolicyIdeal.nD → PrngReg), Pre_PolicyIdeal_finite m →
    θ_run (Cert.PolicyIdeal.defs (F := Ideal)) (onTc (τ := Cert.PolicyIdeal.τ) (Cert.PolicyIdeal.main (F := Ideal))) ⟨m, fun _ => 0, g⟩ (fun r => (∀ c : Dev Cert.PolicyIdeal.nD,
      r.2.mem ((c.tc : Thread Cert.PolicyIdeal.nD Cert.PolicyIdeal.τ).loc Cert.PolicyIdeal.main_arg0) = m ((c.tc : Thread Cert.PolicyIdeal.nD Cert.PolicyIdeal.τ).loc Cert.PolicyIdeal.main_arg0)
      ∧ r.2.mem ((c.tc : Thread Cert.PolicyIdeal.nD Cert.PolicyIdeal.τ).loc Cert.PolicyIdeal.main_arg1) = m ((c.tc : Thread Cert.PolicyIdeal.nD Cert.PolicyIdeal.τ).loc Cert.PolicyIdeal.main_arg1)
      ∧ r.2.mem ((c.tc : Thread Cert.PolicyIdeal.nD Cert.PolicyIdeal.τ).loc Cert.PolicyIdeal.main_arg2) = m ((c.tc : Thread Cert.PolicyIdeal.nD Cert.PolicyIdeal.τ).loc Cert.PolicyIdeal.main_arg2)
      ∧ r.2.mem ((c.tc : Thread Cert.PolicyIdeal.nD Cert.PolicyIdeal.τ).loc Cert.PolicyIdeal.main_arg3) = m ((c.tc : Thread Cert.PolicyIdeal.nD Cert.PolicyIdeal.τ).loc Cert.PolicyIdeal.main_arg3))
      ∧ r.2.sem = fun _ => 0)

def quiescent_PolicyRefIdeal [hPolicyRefIdeal : Cert.PolicyRefIdeal.Facts] : Prop :=
  ∀ (m : (ℓ : Loc Cert.PolicyRefIdeal.nD Cert.PolicyRefIdeal.τ Cert.PolicyRefIdeal.sig) → Buf (Elt Ideal) ℓ) (g : Dev Cert.PolicyRefIdeal.nD → PrngReg), Pre_PolicyRefIdeal m →
    θ_run (Cert.PolicyRefIdeal.defs (F := Ideal)) (onTc (τ := Cert.PolicyRefIdeal.τ) (Cert.PolicyRefIdeal.main (F := Ideal))) ⟨m, fun _ => 0, g⟩ (fun r => (∀ c : Dev Cert.PolicyRefIdeal.nD,
      r.2.mem ((c.tc : Thread Cert.PolicyRefIdeal.nD Cert.PolicyRefIdeal.τ).loc Cert.PolicyRefIdeal.main_arg0) = m ((c.tc : Thread Cert.PolicyRefIdeal.nD Cert.PolicyRefIdeal.τ).loc Cert.PolicyRefIdeal.main_arg0)
      ∧ r.2.mem ((c.tc : Thread Cert.PolicyRefIdeal.nD Cert.PolicyRefIdeal.τ).loc Cert.PolicyRefIdeal.main_arg1) = m ((c.tc : Thread Cert.PolicyRefIdeal.nD Cert.PolicyRefIdeal.τ).loc Cert.PolicyRefIdeal.main_arg1)
      ∧ r.2.mem ((c.tc : Thread Cert.PolicyRefIdeal.nD Cert.PolicyRefIdeal.τ).loc Cert.PolicyRefIdeal.main_arg2) = m ((c.tc : Thread Cert.PolicyRefIdeal.nD Cert.PolicyRefIdeal.τ).loc Cert.PolicyRefIdeal.main_arg2)
      ∧ r.2.mem ((c.tc : Thread Cert.PolicyRefIdeal.nD Cert.PolicyRefIdeal.τ).loc Cert.PolicyRefIdeal.main_arg3) = m ((c.tc : Thread Cert.PolicyRefIdeal.nD Cert.PolicyRefIdeal.τ).loc Cert.PolicyRefIdeal.main_arg3))
      ∧ r.2.sem = fun _ => 0)

def quiescent_PolicyRefIdeal_pre_finite [hPolicyRefIdeal : Cert.PolicyRefIdeal.Facts] [hPre_finite : Cert.Pre_finite.Facts] : Prop :=
  ∀ (m : (ℓ : Loc Cert.PolicyRefIdeal.nD Cert.PolicyRefIdeal.τ Cert.PolicyRefIdeal.sig) → Buf (Elt Ideal) ℓ) (g : Dev Cert.PolicyRefIdeal.nD → PrngReg), Pre_PolicyRefIdeal_finite m →
    θ_run (Cert.PolicyRefIdeal.defs (F := Ideal)) (onTc (τ := Cert.PolicyRefIdeal.τ) (Cert.PolicyRefIdeal.main (F := Ideal))) ⟨m, fun _ => 0, g⟩ (fun r => (∀ c : Dev Cert.PolicyRefIdeal.nD,
      r.2.mem ((c.tc : Thread Cert.PolicyRefIdeal.nD Cert.PolicyRefIdeal.τ).loc Cert.PolicyRefIdeal.main_arg0) = m ((c.tc : Thread Cert.PolicyRefIdeal.nD Cert.PolicyRefIdeal.τ).loc Cert.PolicyRefIdeal.main_arg0)
      ∧ r.2.mem ((c.tc : Thread Cert.PolicyRefIdeal.nD Cert.PolicyRefIdeal.τ).loc Cert.PolicyRefIdeal.main_arg1) = m ((c.tc : Thread Cert.PolicyRefIdeal.nD Cert.PolicyRefIdeal.τ).loc Cert.PolicyRefIdeal.main_arg1)
      ∧ r.2.mem ((c.tc : Thread Cert.PolicyRefIdeal.nD Cert.PolicyRefIdeal.τ).loc Cert.PolicyRefIdeal.main_arg2) = m ((c.tc : Thread Cert.PolicyRefIdeal.nD Cert.PolicyRefIdeal.τ).loc Cert.PolicyRefIdeal.main_arg2)
      ∧ r.2.mem ((c.tc : Thread Cert.PolicyRefIdeal.nD Cert.PolicyRefIdeal.τ).loc Cert.PolicyRefIdeal.main_arg3) = m ((c.tc : Thread Cert.PolicyRefIdeal.nD Cert.PolicyRefIdeal.τ).loc Cert.PolicyRefIdeal.main_arg3))
      ∧ r.2.sem = fun _ => 0)

def quiescent_Argmax [hArgmax : Cert.Argmax.Facts] : Prop :=
  ∀ (m : (ℓ : Loc Cert.Argmax.nD Cert.Argmax.τ Cert.Argmax.sig) → Buf (Elt Bits) ℓ) (g : Dev Cert.Argmax.nD → PrngReg), Pre_Argmax m →
    θ_run (Cert.Argmax.defs (F := Bits)) (Cert.Argmax.threads (F := Bits)) ⟨m, fun _ => 0, g⟩ (fun r => (∀ c : Dev Cert.Argmax.nD,
      r.2.mem ((c.tc : Thread Cert.Argmax.nD Cert.Argmax.τ).loc Cert.Argmax.main_arg0) = m ((c.tc : Thread Cert.Argmax.nD Cert.Argmax.τ).loc Cert.Argmax.main_arg0))
      ∧ r.2.sem = fun _ => 0)

def quiescent_ArgmaxIdeal [hArgmaxIdeal : Cert.ArgmaxIdeal.Facts] : Prop :=
  ∀ (m : (ℓ : Loc Cert.ArgmaxIdeal.nD Cert.ArgmaxIdeal.τ Cert.ArgmaxIdeal.sig) → Buf (Elt Ideal) ℓ) (g : Dev Cert.ArgmaxIdeal.nD → PrngReg), Pre_ArgmaxIdeal m →
    θ_run (Cert.ArgmaxIdeal.defs (F := Ideal)) (Cert.ArgmaxIdeal.threads (F := Ideal)) ⟨m, fun _ => 0, g⟩ (fun r => (∀ c : Dev Cert.ArgmaxIdeal.nD,
      r.2.mem ((c.tc : Thread Cert.ArgmaxIdeal.nD Cert.ArgmaxIdeal.τ).loc Cert.ArgmaxIdeal.main_arg0) = m ((c.tc : Thread Cert.ArgmaxIdeal.nD Cert.ArgmaxIdeal.τ).loc Cert.ArgmaxIdeal.main_arg0))
      ∧ r.2.sem = fun _ => 0)

def quiescent_ArgmaxRefIdeal [hArgmaxRefIdeal : Cert.ArgmaxRefIdeal.Facts] : Prop :=
  ∀ (m : (ℓ : Loc Cert.ArgmaxRefIdeal.nD Cert.ArgmaxRefIdeal.τ Cert.ArgmaxRefIdeal.sig) → Buf (Elt Ideal) ℓ) (g : Dev Cert.ArgmaxRefIdeal.nD → PrngReg), Pre_ArgmaxRefIdeal m →
    θ_run (Cert.ArgmaxRefIdeal.defs (F := Ideal)) (onTc (τ := Cert.ArgmaxRefIdeal.τ) (Cert.ArgmaxRefIdeal.main (F := Ideal))) ⟨m, fun _ => 0, g⟩ (fun r => (∀ c : Dev Cert.ArgmaxRefIdeal.nD,
      r.2.mem ((c.tc : Thread Cert.ArgmaxRefIdeal.nD Cert.ArgmaxRefIdeal.τ).loc Cert.ArgmaxRefIdeal.main_arg0) = m ((c.tc : Thread Cert.ArgmaxRefIdeal.nD Cert.ArgmaxRefIdeal.τ).loc Cert.ArgmaxRefIdeal.main_arg0))
      ∧ r.2.sem = fun _ => 0)

def preserves_Kernel_KernelIdeal : Prop :=
  True

def algebraic_KernelIdeal_KernelRefIdeal_pre_finite_args [hKernelIdeal : Cert.KernelIdeal.Facts] [hKernelRefIdeal : Cert.KernelRefIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelRefIdeal.nD Cert.KernelRefIdeal.τ Cert.KernelRefIdeal.sig) → Buf (Elt Ideal) ℓ) (g' : Dev Cert.KernelRefIdeal.nD → PrngReg), Pre_KernelIdeal_finite_args m →
    (∀ c : Dev Cert.KernelIdeal.nD,
      m' ((c.tc : Thread Cert.KernelRefIdeal.nD Cert.KernelRefIdeal.τ).loc Cert.KernelRefIdeal.main_arg0) = m ((c.tc : Thread Cert.KernelIdeal.nD Cert.KernelIdeal.τ).loc Cert.KernelIdeal.main_arg0)
      ∧ m' ((c.tc : Thread Cert.KernelRefIdeal.nD Cert.KernelRefIdeal.τ).loc Cert.KernelRefIdeal.main_arg1) = m ((c.tc : Thread Cert.KernelIdeal.nD Cert.KernelIdeal.τ).loc Cert.KernelIdeal.main_arg1)
      ∧ m' ((c.tc : Thread Cert.KernelRefIdeal.nD Cert.KernelRefIdeal.τ).loc Cert.KernelRefIdeal.main_arg2) = m ((c.tc : Thread Cert.KernelIdeal.nD Cert.KernelIdeal.τ).loc Cert.KernelIdeal.main_arg2)
      ∧ m' ((c.tc : Thread Cert.KernelRefIdeal.nD Cert.KernelRefIdeal.τ).loc Cert.KernelRefIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.KernelRefIdeal.defs (F := Ideal)) (onTc (τ := Cert.KernelRefIdeal.τ) (Cert.KernelRefIdeal.main (F := Ideal))) ⟨m', fun _ => 0, g'⟩ (fun r => ∀ c : Dev Cert.KernelRefIdeal.nD,
          r.2.mem ((c.tc : Thread Cert.KernelRefIdeal.nD Cert.KernelRefIdeal.τ).loc Cert.KernelRefIdeal.main_v16) = v0 c
          ∧ r.2.mem ((c.tc : Thread Cert.KernelRefIdeal.nD Cert.KernelRefIdeal.τ).loc Cert.KernelRefIdeal.main_v17) = v1 c
          ∧ r.2.mem ((c.tc : Thread Cert.KernelRefIdeal.nD Cert.KernelRefIdeal.τ).loc Cert.KernelRefIdeal.main_arg0) = m' ((c.tc : Thread Cert.KernelRefIdeal.nD Cert.KernelRefIdeal.τ).loc Cert.KernelRefIdeal.main_arg0)
          ∧ r.2.mem ((c.tc : Thread Cert.KernelRefIdeal.nD Cert.KernelRefIdeal.τ).loc Cert.KernelRefIdeal.main_arg1) = m' ((c.tc : Thread Cert.KernelRefIdeal.nD Cert.KernelRefIdeal.τ).loc Cert.KernelRefIdeal.main_arg1)
          ∧ r.2.mem ((c.tc : Thread Cert.KernelRefIdeal.nD Cert.KernelRefIdeal.τ).loc Cert.KernelRefIdeal.main_arg2) = m' ((c.tc : Thread Cert.KernelRefIdeal.nD Cert.KernelRefIdeal.τ).loc Cert.KernelRefIdeal.main_arg2)
          ∧ r.2.mem ((c.tc : Thread Cert.KernelRefIdeal.nD Cert.KernelRefIdeal.τ).loc Cert.KernelRefIdeal.main_arg3) = m' ((c.tc : Thread Cert.KernelRefIdeal.nD Cert.KernelRefIdeal.τ).loc Cert.KernelRefIdeal.main_arg3))

def preserves_Policy_PolicyIdeal : Prop :=
  True

def algebraic_PolicyIdeal_PolicyRefIdeal_pre_finite [hPolicyIdeal : Cert.PolicyIdeal.Facts] [hPolicyRefIdeal : Cert.PolicyRefIdeal.Facts] [hPre_finite : Cert.Pre_finite.Facts] : Prop :=
  ∀ (m : (ℓ : Loc Cert.PolicyIdeal.nD Cert.PolicyIdeal.τ Cert.PolicyIdeal.sig) → Buf (Elt Ideal) ℓ) (g : Dev Cert.PolicyIdeal.nD → PrngReg)
    (m' : (ℓ : Loc Cert.PolicyRefIdeal.nD Cert.PolicyRefIdeal.τ Cert.PolicyRefIdeal.sig) → Buf (Elt Ideal) ℓ) (g' : Dev Cert.PolicyRefIdeal.nD → PrngReg), Pre_PolicyIdeal_finite m →
    (∀ c : Dev Cert.PolicyIdeal.nD,
      m' ((c.tc : Thread Cert.PolicyRefIdeal.nD Cert.PolicyRefIdeal.τ).loc Cert.PolicyRefIdeal.main_arg0) = m ((c.tc : Thread Cert.PolicyIdeal.nD Cert.PolicyIdeal.τ).loc Cert.PolicyIdeal.main_arg0)
      ∧ m' ((c.tc : Thread Cert.PolicyRefIdeal.nD Cert.PolicyRefIdeal.τ).loc Cert.PolicyRefIdeal.main_arg1) = m ((c.tc : Thread Cert.PolicyIdeal.nD Cert.PolicyIdeal.τ).loc Cert.PolicyIdeal.main_arg1)
      ∧ m' ((c.tc : Thread Cert.PolicyRefIdeal.nD Cert.PolicyRefIdeal.τ).loc Cert.PolicyRefIdeal.main_arg2) = m ((c.tc : Thread Cert.PolicyIdeal.nD Cert.PolicyIdeal.τ).loc Cert.PolicyIdeal.main_arg2)
      ∧ m' ((c.tc : Thread Cert.PolicyRefIdeal.nD Cert.PolicyRefIdeal.τ).loc Cert.PolicyRefIdeal.main_arg3) = m ((c.tc : Thread Cert.PolicyIdeal.nD Cert.PolicyIdeal.τ).loc Cert.PolicyIdeal.main_arg3)) →
    ∃ (v0 : (c : Dev Cert.PolicyIdeal.nD) → Buf (Elt Ideal) ((c.tc : Thread Cert.PolicyIdeal.nD Cert.PolicyIdeal.τ).loc Cert.PolicyIdeal.main_v9_0)) (v1 : (c : Dev Cert.PolicyIdeal.nD) → Buf (Elt Ideal) ((c.tc : Thread Cert.PolicyIdeal.nD Cert.PolicyIdeal.τ).loc Cert.PolicyIdeal.main_v9_1)),
      θ_run (Cert.PolicyIdeal.defs (F := Ideal)) (onTc (τ := Cert.PolicyIdeal.τ) (Cert.PolicyIdeal.main (F := Ideal))) ⟨m, fun _ => 0, g⟩ (fun r => ∀ c : Dev Cert.PolicyIdeal.nD,
          r.2.mem ((c.tc : Thread Cert.PolicyIdeal.nD Cert.PolicyIdeal.τ).loc Cert.PolicyIdeal.main_v9_0) = v0 c
          ∧ r.2.mem ((c.tc : Thread Cert.PolicyIdeal.nD Cert.PolicyIdeal.τ).loc Cert.PolicyIdeal.main_v9_1) = v1 c
          ∧ r.2.mem ((c.tc : Thread Cert.PolicyIdeal.nD Cert.PolicyIdeal.τ).loc Cert.PolicyIdeal.main_arg0) = m ((c.tc : Thread Cert.PolicyIdeal.nD Cert.PolicyIdeal.τ).loc Cert.PolicyIdeal.main_arg0)
          ∧ r.2.mem ((c.tc : Thread Cert.PolicyIdeal.nD Cert.PolicyIdeal.τ).loc Cert.PolicyIdeal.main_arg1) = m ((c.tc : Thread Cert.PolicyIdeal.nD Cert.PolicyIdeal.τ).loc Cert.PolicyIdeal.main_arg1)
          ∧ r.2.mem ((c.tc : Thread Cert.PolicyIdeal.nD Cert.PolicyIdeal.τ).loc Cert.PolicyIdeal.main_arg2) = m ((c.tc : Thread Cert.PolicyIdeal.nD Cert.PolicyIdeal.τ).loc Cert.PolicyIdeal.main_arg2)
          ∧ r.2.mem ((c.tc : Thread Cert.PolicyIdeal.nD Cert.PolicyIdeal.τ).loc Cert.PolicyIdeal.main_arg3) = m ((c.tc : Thread Cert.PolicyIdeal.nD Cert.PolicyIdeal.τ).loc Cert.PolicyIdeal.main_arg3))
      ∧ θ_run (Cert.PolicyRefIdeal.defs (F := Ideal)) (onTc (τ := Cert.PolicyRefIdeal.τ) (Cert.PolicyRefIdeal.main (F := Ideal))) ⟨m', fun _ => 0, g'⟩ (fun r => ∀ c : Dev Cert.PolicyRefIdeal.nD,
          r.2.mem ((c.tc : Thread Cert.PolicyRefIdeal.nD Cert.PolicyRefIdeal.τ).loc Cert.PolicyRefIdeal.main_v16) = v0 c
          ∧ r.2.mem ((c.tc : Thread Cert.PolicyRefIdeal.nD Cert.PolicyRefIdeal.τ).loc Cert.PolicyRefIdeal.main_v17) = v1 c
          ∧ r.2.mem ((c.tc : Thread Cert.PolicyRefIdeal.nD Cert.PolicyRefIdeal.τ).loc Cert.PolicyRefIdeal.main_arg0) = m' ((c.tc : Thread Cert.PolicyRefIdeal.nD Cert.PolicyRefIdeal.τ).loc Cert.PolicyRefIdeal.main_arg0)
          ∧ r.2.mem ((c.tc : Thread Cert.PolicyRefIdeal.nD Cert.PolicyRefIdeal.τ).loc Cert.PolicyRefIdeal.main_arg1) = m' ((c.tc : Thread Cert.PolicyRefIdeal.nD Cert.PolicyRefIdeal.τ).loc Cert.PolicyRefIdeal.main_arg1)
          ∧ r.2.mem ((c.tc : Thread Cert.PolicyRefIdeal.nD Cert.PolicyRefIdeal.τ).loc Cert.PolicyRefIdeal.main_arg2) = m' ((c.tc : Thread Cert.PolicyRefIdeal.nD Cert.PolicyRefIdeal.τ).loc Cert.PolicyRefIdeal.main_arg2)
          ∧ r.2.mem ((c.tc : Thread Cert.PolicyRefIdeal.nD Cert.PolicyRefIdeal.τ).loc Cert.PolicyRefIdeal.main_arg3) = m' ((c.tc : Thread Cert.PolicyRefIdeal.nD Cert.PolicyRefIdeal.τ).loc Cert.PolicyRefIdeal.main_arg3))

def preserves_Argmax_ArgmaxIdeal : Prop :=
  True

def algebraic_ArgmaxIdeal_ArgmaxRefIdeal [hArgmaxIdeal : Cert.ArgmaxIdeal.Facts] [hArgmaxRefIdeal : Cert.ArgmaxRefIdeal.Facts] : Prop :=
  ∀ (m : (ℓ : Loc Cert.ArgmaxIdeal.nD Cert.ArgmaxIdeal.τ Cert.ArgmaxIdeal.sig) → Buf (Elt Ideal) ℓ) (g : Dev Cert.ArgmaxIdeal.nD → PrngReg)
    (m' : (ℓ : Loc Cert.ArgmaxRefIdeal.nD Cert.ArgmaxRefIdeal.τ Cert.ArgmaxRefIdeal.sig) → Buf (Elt Ideal) ℓ) (g' : Dev Cert.ArgmaxRefIdeal.nD → PrngReg), Pre_ArgmaxIdeal m →
    (∀ c : Dev Cert.ArgmaxIdeal.nD,
      m' ((c.tc : Thread Cert.ArgmaxRefIdeal.nD Cert.ArgmaxRefIdeal.τ).loc Cert.ArgmaxRefIdeal.main_arg0) = m ((c.tc : Thread Cert.ArgmaxIdeal.nD Cert.ArgmaxIdeal.τ).loc Cert.ArgmaxIdeal.main_arg0)) →
    ∃ (v0 : (c : Dev Cert.ArgmaxIdeal.nD) → Buf (Elt Ideal) ((c.tc : Thread Cert.ArgmaxIdeal.nD Cert.ArgmaxIdeal.τ).loc Cert.ArgmaxIdeal.main_v0)),
      θ_run (Cert.ArgmaxIdeal.defs (F := Ideal)) (Cert.ArgmaxIdeal.threads (F := Ideal)) ⟨m, fun _ => 0, g⟩ (fun r => ∀ c : Dev Cert.ArgmaxIdeal.nD,
          r.2.mem ((c.tc : Thread Cert.ArgmaxIdeal.nD Cert.ArgmaxIdeal.τ).loc Cert.ArgmaxIdeal.main_v0) = v0 c
          ∧ r.2.mem ((c.tc : Thread Cert.ArgmaxIdeal.nD Cert.ArgmaxIdeal.τ).loc Cert.ArgmaxIdeal.main_arg0) = m ((c.tc : Thread Cert.ArgmaxIdeal.nD Cert.ArgmaxIdeal.τ).loc Cert.ArgmaxIdeal.main_arg0))
      ∧ θ_run (Cert.ArgmaxRefIdeal.defs (F := Ideal)) (onTc (τ := Cert.ArgmaxRefIdeal.τ) (Cert.ArgmaxRefIdeal.main (F := Ideal))) ⟨m', fun _ => 0, g'⟩ (fun r => ∀ c : Dev Cert.ArgmaxRefIdeal.nD,
          r.2.mem ((c.tc : Thread Cert.ArgmaxRefIdeal.nD Cert.ArgmaxRefIdeal.τ).loc Cert.ArgmaxRefIdeal.main_v2) = v0 c
          ∧ r.2.mem ((c.tc : Thread Cert.ArgmaxRefIdeal.nD Cert.ArgmaxRefIdeal.τ).loc Cert.ArgmaxRefIdeal.main_arg0) = m' ((c.tc : Thread Cert.ArgmaxRefIdeal.nD Cert.ArgmaxRefIdeal.τ).loc Cert.ArgmaxRefIdeal.main_arg0))

def Claim : Prop :=
  ∃ (hKernel : Cert.Kernel.Facts) (hKernelIdeal : Cert.KernelIdeal.Facts) (hKernelRefIdeal : Cert.KernelRefIdeal.Facts) (hPolicy : Cert.Policy.Facts) (hPolicyIdeal : Cert.PolicyIdeal.Facts) (hPolicyRefIdeal : Cert.PolicyRefIdeal.Facts) (hArgmax : Cert.Argmax.Facts) (hArgmaxIdeal : Cert.ArgmaxIdeal.Facts) (hArgmaxRefIdeal : Cert.ArgmaxRefIdeal.Facts) (hPre_finite_args : Cert.Pre_finite_args.Facts) (hPre_finite : Cert.Pre_finite.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_KernelRefIdeal (hKernelRefIdeal := hKernelRefIdeal)
    ∧ quiescent_KernelRefIdeal_pre_finite_args (hKernelRefIdeal := hKernelRefIdeal) (hPre_finite_args := hPre_finite_args)
    ∧ quiescent_Policy (hPolicy := hPolicy)
    ∧ quiescent_PolicyIdeal (hPolicyIdeal := hPolicyIdeal)
    ∧ quiescent_PolicyIdeal_pre_finite (hPolicyIdeal := hPolicyIdeal) (hPre_finite := hPre_finite)
    ∧ quiescent_PolicyRefIdeal (hPolicyRefIdeal := hPolicyRefIdeal)
    ∧ quiescent_PolicyRefIdeal_pre_finite (hPolicyRefIdeal := hPolicyRefIdeal) (hPre_finite := hPre_finite)
    ∧ quiescent_Argmax (hArgmax := hArgmax)
    ∧ quiescent_ArgmaxIdeal (hArgmaxIdeal := hArgmaxIdeal)
    ∧ quiescent_ArgmaxRefIdeal (hArgmaxRefIdeal := hArgmaxRefIdeal)
    ∧ preserves_Kernel_KernelIdeal
    ∧ algebraic_KernelIdeal_KernelRefIdeal_pre_finite_args (hKernelIdeal := hKernelIdeal) (hKernelRefIdeal := hKernelRefIdeal) (hPre_finite_args := hPre_finite_args)
    ∧ preserves_Policy_PolicyIdeal
    ∧ algebraic_PolicyIdeal_PolicyRefIdeal_pre_finite (hPolicyIdeal := hPolicyIdeal) (hPolicyRefIdeal := hPolicyRefIdeal) (hPre_finite := hPre_finite)
    ∧ preserves_Argmax_ArgmaxIdeal
    ∧ algebraic_ArgmaxIdeal_ArgmaxRefIdeal (hArgmaxIdeal := hArgmaxIdeal) (hArgmaxRefIdeal := hArgmaxRefIdeal)
-- ==== Pre_finite.lean ====
abbrev S16x16384x128 : Shape := ⟨3, ![16, 16384, 128]⟩
abbrev S128x2 : Shape := ⟨2, ![128, 2]⟩
abbrev S2 : Shape := ⟨1, ![2]⟩
abbrev S16x16384 : Shape := ⟨2, ![16, 16384]⟩
abbrev S_ : Shape := ⟨0, ![]⟩

class Facts : Prop where
  bcast_S_S16x16384x128 : S_.BroadcastsInDim S16x16384x128 (![] : Fin 0 → Fin S16x16384x128.rank)
  reducesTo_S16x16384x128_S_d0_1_2 : S16x16384x128.ReducesTo [0, 1, 2] S_
  h_S_ : 0 < S_.numel
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S16x16384x128 .f32) (main_arg1 : FVec F S128x2 .f32) (main_arg2 : FVec F S2 .f32) (main_arg3 : FVec F S16x16384 .f32) : IVec S_ 1 :=
  let main_v0 : FVec F S16x16384x128 .f32 := Host.absf main_arg0
  let main_cst : FVec F S_ .f32 := constant S_ .f32 0x7F800000#32
  let main_v1 : FVec F S16x16384x128 .f32 := broadcastInDim S16x16384x128 ![] bcast_S_S16x16384x128 main_cst
  let main_v2 : IVec S16x16384x128 1 := cmpf .olt main_v0 main_v1
  let main_c : IVec S_ 1 := constantI S_ 1 1#1
  let main_v3 : IVec S_ 1 := (fun x v => Host.reduce IntOp.andi x v reducesTo_S16x16384x128_S_d0_1_2 h_S_) main_v2 main_c
  let main_v4 : FVec F S128x2 .f32 := Host.absf main_arg1
  let main_cst_0 : FVec F S_ .f32 := constant S_ .f32 0x7F800000#32
  let main_v5 : FVec F S128x2 .f32 := broadcastInDim S128x2 ![] bcast_S_S128x2 main_cst_0
  let main_v6 : IVec S128x2 1 := cmpf .olt main_v4 main_v5
  let main_c_1 : IVec S_ 1 := constantI S_ 1 1#1
  let main_v7 : IVec S_ 1 := (fun x v => Host.reduce IntOp.andi x v reducesTo_S128x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Pre_finite_args.lean ====
abbrev S16x16384x128 : Shape := ⟨3, ![16, 16384, 128]⟩
abbrev S128x2 : Shape := ⟨2, ![128, 2]⟩
abbrev S2 : Shape := ⟨1, ![2]⟩
abbrev S_ : Shape := ⟨0, ![]⟩

class Facts : Prop where
  bcast_S_S16x16384x128 : S_.BroadcastsInDim S16x16384x128 (![] : Fin 0 → Fin S16x16384x128.rank)
  reducesTo_S16x16384x128_S_d0_1_2 : S16x16384x128.ReducesTo [0, 1, 2] S_
  h_S_ : 0 < S_.numel
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S16x16384x128 .f32) (main_arg1 : FVec F S128x2 .f32) (main_arg2 : FVec F S2 .f32) (main_arg3 : IVec S_ 32) : IVec S_ 1 :=
  let main_v0 : FVec F S16x16384x128 .f32 := Host.absf main_arg0
  let main_cst : FVec F S_ .f32 := constant S_ .f32 0x7F800000#32
  let main_v1 : FVec F S16x16384x128 .f32 := broadcastInDim S16x16384x128 ![] bcast_S_S16x16384x128 main_cst
  let main_v2 : IVec S16x16384x128 1 := cmpf .olt main_v0 main_v1
  let main_c : IVec S_ 1 := constantI S_ 1 1#1
  let main_v3 : IVec S_ 1 := (fun x v => Host.reduce IntOp.andi x v reducesTo_S16x16384x128_S_d0_1_2 h_S_) main_v2 main_c
  let main_v4 : FVec F S128x2 .f32 := Host.absf main_arg1
  let main_cst_0 : FVec F S_ .f32 := constant S_ .f32 0x7F800000#32
  let main_v5 : FVec F S128x2 .f32 := broadcastInDim S128x2 ![] bcast_S_S128x2 main_cst_0
  let main_v6 : IVec S128x2 1 := cmpf .olt main_v4 main_v5
  let main_c_1 : IVec S_ 1 := constantI S_ 1 1#1
  let main_v7 : IVec S_ 1 := (fun x v => Host.reduce IntOp.andi x v reducesTo_S128x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S16x16384x128 : Shape := ⟨3, ![16, 16384, 128]⟩
abbrev S128x2 : Shape := ⟨2, ![128, 2]⟩
abbrev S2 : Shape := ⟨1, ![2]⟩
abbrev S_ : Shape := ⟨0, ![]⟩
abbrev S16x16384 : Shape := ⟨2, ![16, 16384]⟩
abbrev S8x128 : Shape := ⟨2, ![8, 128]⟩
abbrev S2x128 : Shape := ⟨2, ![2, 128]⟩
abbrev S1 : Shape := ⟨1, ![1]⟩
abbrev S16x1024x128 : Shape := ⟨3, ![16, 1024, 128]⟩
abbrev S16x1024 : Shape := ⟨2, ![16, 1024]⟩
abbrev S16384x128 : Shape := ⟨2, ![16384, 128]⟩
abbrev S8x16384 : Shape := ⟨2, ![8, 16384]⟩
abbrev S1x16384 : Shape := ⟨2, ![1, 16384]⟩
abbrev S1x1 : Shape := ⟨2, ![1, 1]⟩
abbrev S1x1024 : Shape := ⟨2, ![1, 1024]⟩
abbrev S16 : Shape := ⟨1, ![16]⟩

abbrev nBuf : Space → Nat
  | .hbm => 29
  | .vmem => 10
  | .smem => 0
  | _ => 0

abbrev bufTy : (tb : Table) → Fin (tcTables nBuf tb) → BufTy
  | .hbm, ⟨0, _⟩ => ⟨S16x16384x128, .f32⟩
  | .hbm, ⟨1, _⟩ => ⟨S128x2, .f32⟩
  | .hbm, ⟨2, _⟩ => ⟨S2, .f32⟩
  | .hbm, ⟨3, _⟩ => ⟨S_, .i32⟩
  | .hbm, ⟨4, _⟩ => ⟨S_, .f32⟩
  | .hbm, ⟨5, _⟩ => ⟨S16x16384, .f32⟩
  | .hbm, ⟨6, _⟩ => ⟨S_, .f32⟩
  | .hbm, ⟨7, _⟩ => ⟨S8x128, .f32⟩
  | .hbm, ⟨8, _⟩ => ⟨S2x128, .f32⟩
  | .hbm, ⟨9, _⟩ => ⟨S_, .i32⟩
  | .hbm, ⟨10, _⟩ => ⟨S1, .i32⟩
  | .hbm, ⟨11, _⟩ => ⟨S8x128, .f32⟩
  | .hbm, ⟨12, _⟩ => ⟨S_, .f32⟩
  | .hbm, ⟨13, _⟩ => ⟨S8x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S8x128, .f32⟩
  | .hbm, ⟨20, _⟩ => ⟨S16x16384, .f32⟩
  | .hbm, ⟨21, _⟩ => ⟨S16x16384, .f32⟩
  | .hbm, ⟨22, _⟩ => ⟨S_, .i32⟩
  | .hbm, ⟨23, _⟩ => ⟨S16, .i32⟩
  | .hbm, ⟨24, _⟩ => ⟨S1x1, .f32⟩
  | .hbm, ⟨25, _⟩ => ⟨S_, .f32⟩
  | .hbm, ⟨26, _⟩ => ⟨S_, .i32⟩
  | .hbm, ⟨27, _⟩ => ⟨S16, .i32⟩
  | .hbm, ⟨28, _⟩ => ⟨S16, .i32⟩
  | .local _ .vmem, ⟨0, _⟩ => ⟨S16x1024x128, .f32⟩
  | .local _ .vmem, ⟨1, _⟩ => ⟨S16x1024x128, .f32⟩
  | .local _ .vmem, ⟨2, _⟩ => ⟨S8x128, .f32⟩
  | .local _ .vmem, ⟨3, _⟩ => ⟨S8x128, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | _, _ => ⟨S16x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_c_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelRefIdeal.lean ====
abbrev S16x16384x128 : Shape := ⟨3, ![16, 16384, 128]⟩
abbrev S128x2 : Shape := ⟨2, ![128, 2]⟩
abbrev S2 : Shape := ⟨1, ![2]⟩
abbrev S_ : Shape := ⟨0, ![]⟩
abbrev S16x16384x2 : Shape := ⟨3, ![16, 16384, 2]⟩
abbrev S1x1x2 : Shape := ⟨3, ![1, 1, 2]⟩
abbrev S16x16384 : Shape := ⟨2, ![16, 16384]⟩
abbrev S16x16384x1 : Shape := ⟨3, ![16, 16384, 1]⟩
abbrev S16 : Shape := ⟨1, ![16]⟩

abbrev nBuf : Space → Nat
  | .hbm => 26
  | .vmem => 0
  | .smem => 0
  | _ => 0

abbrev bufTy : (tb : Table) → Fin (tcTables nBuf tb) → BufTy
  | .hbm, ⟨0, _⟩ => ⟨S16x16384x128, .f32⟩
  | .hbm, ⟨1, _⟩ => ⟨S128x2, .f32⟩
  | .hbm, ⟨2, _⟩ => ⟨S2, .f32⟩
  | .hbm, ⟨3, _⟩ => ⟨S_, .i32⟩
  | .hbm, ⟨4, _⟩ => ⟨S16x16384x2, .f32⟩
  | .hbm, ⟨5, _⟩ => ⟨S1x1x2, .f32⟩
  | .hbm, ⟨6, _⟩ => ⟨S16x16384x2, .f32⟩
  | .hbm, ⟨7, _⟩ => ⟨S16x16384x2, .f32⟩
  | .hbm, ⟨8, _⟩ => ⟨S_, .f32⟩
  | .hbm, ⟨9, _⟩ => ⟨S16x16384, .f32⟩
  | .hbm, ⟨10, _⟩ => ⟨S_, .f32⟩
  | .hbm, ⟨11, _⟩ => ⟨S16x16384, .f32⟩
  | .hbm, ⟨12, _⟩ => ⟨S16x16384, .f32⟩
  | .hbm, ⟨13, _⟩ => ⟨S16x16384x1, .f32⟩
  | .hbm, ⟨14, _⟩ => ⟨S16x16384x2, .f32⟩
  | .hbm, ⟨15, _⟩ => ⟨S16x16384x2, .f32⟩
  | .hbm, ⟨16, _⟩ => ⟨S16x16384x2, .f32⟩
  | .hbm, ⟨17, _⟩ => ⟨S_, .f32⟩
  | .hbm, ⟨18, _⟩ => ⟨S16x16384, .f32⟩
  | .hbm, ⟨19, _⟩ => ⟨S16x16384x1, .f32⟩
  | .hbm, ⟨20, _⟩ => ⟨S16x16384x2, .f32⟩
  | .hbm, ⟨21, _⟩ => ⟨S16x16384x2, .f32⟩
  | .hbm, ⟨22, _⟩ => ⟨S16x16384x1, .f32⟩
  | .hbm, ⟨23, _⟩ => ⟨S16x16384, .f32⟩
  | .hbm, ⟨24, _⟩ => ⟨S_, .i32⟩
  | .hbm, ⟨25, _⟩ => ⟨S16, .i32⟩
  | _, _ => ⟨S16x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Policy.lean ====
abbrev S16x16384x128 : Shape := ⟨3, ![16, 16384, 128]⟩
abbrev S128x2 : Shape := ⟨2, ![128, 2]⟩
abbrev S2 : Shape := ⟨1, ![2]⟩
abbrev S16x16384 : Shape := ⟨2, ![16, 16384]⟩
abbrev S_ : Shape := ⟨0, ![]⟩
abbrev S8x128 : Shape := ⟨2, ![8, 128]⟩
abbrev S2x128 : Shape := ⟨2, ![2, 128]⟩
abbrev S1 : Shape := ⟨1, ![1]⟩
abbrev S16x1024x128 : Shape := ⟨3, ![16, 1024, 128]⟩
abbrev S16x1024 : Shape := ⟨2, ![16, 1024]⟩
abbrev S16384x128 : Shape := ⟨2, ![16384, 128]⟩
abbrev S8x16384 : Shape := ⟨2, ![8, 16384]⟩
abbrev S1x16384 : Shape := ⟨2, ![1, 16384]⟩
abbrev S1x1 : Shape := ⟨2, ![1, 1]⟩
abbrev S1x1024 : Shape := ⟨2, ![1, 1024]⟩

abbrev nBuf : Space → Nat
  | .hbm => 20
  | .vmem => 10
  | .smem => 0
  | _ => 0

abbrev bufTy : (tb : Table) → Fin (tcTables nBuf tb) → BufTy
  | .hbm, ⟨0, _⟩ => ⟨S16x16384x128, .f32⟩
  | .hbm, ⟨1, _⟩ => ⟨S128x2, .f32⟩
  | .hbm, ⟨2, _⟩ => ⟨S2, .f32⟩
  | .hbm, ⟨3, _⟩ => ⟨S16x16384, .f32⟩
  | .hbm, ⟨4, _⟩ => ⟨S_, .f32⟩
  | .hbm, ⟨5, _⟩ => ⟨S8x128, .f32⟩
  | .hbm, ⟨6, _⟩ => ⟨S2x128, .f32⟩
  | .hbm, ⟨7, _⟩ => ⟨S_, .i32⟩
  | .hbm, ⟨8, _⟩ => ⟨S1, .i32⟩
  | .hbm, ⟨9, _⟩ => ⟨S8x128, .f32⟩
  | .hbm, ⟨10, _⟩ => ⟨S_, .f32⟩
  | .hbm, ⟨11, _⟩ => ⟨S8x128, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S8x128, .f32⟩
  | .hbm, ⟨18, _⟩ => ⟨S16x16384, .f32⟩
  | .hbm, ⟨19, _⟩ => ⟨S16x16384, .f32⟩
  | .local _ .vmem, ⟨0, _⟩ => ⟨S16x1024x128, .f32⟩
  | .local _ .vmem, ⟨1, _⟩ => ⟨S16x1024x128, .f32⟩
  | .local _ .vmem, ⟨2, _⟩ => ⟨S8x128, .f32⟩
  | .local _ .vmem, ⟨3, _⟩ => ⟨S8x128, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | _, _ => ⟨S16x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PolicyRefIdeal.lean ====
abbrev S16x16384x128 : Shape := ⟨3, ![16, 16384, 128]⟩
abbrev S128x2 : Shape := ⟨2, ![128, 2]⟩
abbrev S2 : Shape := ⟨1, ![2]⟩
abbrev S16x16384 : Shape := ⟨2, ![16, 16384]⟩
abbrev S16x16384x2 : Shape := ⟨3, ![16, 16384, 2]⟩
abbrev S1x1x2 : Shape := ⟨3, ![1, 1, 2]⟩
abbrev S_ : Shape := ⟨0, ![]⟩
abbrev S16x16384x1 : Shape := ⟨3, ![16, 16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x16384x128, .f32⟩
  | .hbm, ⟨1, _⟩ => ⟨S128x2, .f32⟩
  | .hbm, ⟨2, _⟩ => ⟨S2, .f32⟩
  | .hbm, ⟨3, _⟩ => ⟨S16x16384, .f32⟩
  | .hbm, ⟨4, _⟩ => ⟨S16x16384x2, .f32⟩
  | .hbm, ⟨5, _⟩ => ⟨S1x1x2, .f32⟩
  | .hbm, ⟨6, _⟩ => ⟨S16x16384x2, .f32⟩
  | .hbm, ⟨7, _⟩ => ⟨S16x16384x2, .f32⟩
  | .hbm, ⟨8, _⟩ => ⟨S_, .f32⟩
  | .hbm, ⟨9, _⟩ => ⟨S16x16384, .f32⟩
  | .hbm, ⟨10, _⟩ => ⟨S_, .f32⟩
  | .hbm, ⟨11, _⟩ => ⟨S16x16384, .f32⟩
  | .hbm, ⟨12, _⟩ => ⟨S16x16384, .f32⟩
  | .hbm, ⟨13, _⟩ => ⟨S16x16384x1, .f32⟩
  | .hbm, ⟨14, _⟩ => ⟨S16x16384x2, .f32⟩
  | .hbm, ⟨15, _⟩ => ⟨S16x16384x2, .f32⟩
  | .hbm, ⟨16, _⟩ => ⟨S16x16384x2, .f32⟩
  | .hbm, ⟨17, _⟩ => ⟨S_, .f32⟩
  | .hbm, ⟨18, _⟩ => ⟨S16x16384, .f32⟩
  | .hbm, ⟨19, _⟩ => ⟨S16x16384x1, .f32⟩
  | .hbm, ⟨20, _⟩ => ⟨S16x16384x2, .f32⟩
  | .hbm, ⟨21, _⟩ => ⟨S16x16384x2, .f32⟩
  | .hbm, ⟨22, _⟩ => ⟨S16x16384x1, .f32⟩
  | .hbm, ⟨23, _⟩ => ⟨S16x16384, .f32⟩
  | .hbm, ⟨24, _⟩ => ⟨S16x16384, .f32⟩
  | _, _ => ⟨S16x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Argmax.lean ====
abbrev S16x16384 : Shape := ⟨2, ![16, 16384]⟩
abbrev S16x16 : Shape := ⟨2, ![16, 16]⟩
abbrev S16384 : Shape := ⟨1, ![16384]⟩
abbrev S16 : Shape := ⟨1, ![16]⟩
abbrev S_ : Shape := ⟨0, ![]⟩
abbrev S1x16384 : Shape := ⟨2, ![1, 16384]⟩
abbrev S1 : Shape := ⟨1, ![1]⟩
abbrev S1x16 : Shape := ⟨2, ![1, 16]⟩

abbrev nBuf : Table → Nat
  | .hbm => 2
  | .local .scVector .vmem => 2
  | _ => 0

abbrev bufTy : (tb : Table) → Fin (nBuf tb) → BufTy
  | .hbm, ⟨0, _⟩ => ⟨S16x16384, .f32⟩
  | .hbm, ⟨1, _⟩ => ⟨S16x16, .i32⟩
  | .local .scVector .vmem, ⟨0, _⟩ => ⟨S16384, .f32⟩
  | .local .scVector .vmem, ⟨1, _⟩ => ⟨S16, .i32⟩
  | _, _ => ⟨S16x16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  ![v1.toNat, 0]
@[reducible] def k0_t1_loop : Scf.Loop 32 :=
  let c0_i32_1 : BitVec 32 := 0#32
  let c128_i32 : BitVec 32 := 128#32
  let v8 : BitVec 32 := Scalar.addi c0_i32_1 c128_i32
  let c1_i32 : BitVec 32 := 1#32
  ⟨c0_i32_1, v8, c1_i32⟩
def k0_off2 (k0_t1 : Fin k0_t1_loop.trips) (c0_i32_4 : BitVec 32) : Fin 1 → Nat :=
  let c0_i32_1 : BitVec 32 := 0#32
  let c1_i32 : BitVec 32 := 1#32
  let arg6 : BitVec 32 := Scf.iv c0_i32_1 c1_i32 k0_t1
  let c128_i32_3 : BitVec 32 := 128#32
  let v69 : BitVec 32 := Scalar.muli arg6 c128_i32_3
  let v70 : BitVec 32 := Scalar.addi v69 c0_i32_4
  let v71 : Index := Scalar.indexCast v70
  ![v71.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ArgmaxRefIdeal.lean ====
abbrev S16x16384 : Shape := ⟨2, ![16, 16384]⟩
abbrev S_ : Shape := ⟨0, ![]⟩
abbrev S16 : Shape := ⟨1, ![16]⟩
abbrev S16x1 : Shape := ⟨2, ![16, 1]⟩
abbrev S16x16 : Shape := ⟨2, ![16, 16]⟩

abbrev nBuf : Space → Nat
  | .hbm => 8
  | .vmem => 0
  | .smem => 0
  | _ => 0

abbrev bufTy : (tb : Table) → Fin (tcTables nBuf tb) → BufTy
  | .hbm, ⟨0, _⟩ => ⟨S16x16384, .f32⟩
  | .hbm, ⟨1, _⟩ => ⟨S16x16384, .i32⟩
  | .hbm, ⟨2, _⟩ => ⟨S_, .f32⟩
  | .hbm, ⟨3, _⟩ => ⟨S_, .i32⟩
  | .hbm, ⟨4, _⟩ => ⟨S16, .f32⟩
  | .hbm, ⟨5, _⟩ => ⟨S16, .i32⟩
  | .hbm, ⟨6, _⟩ => ⟨S16x1, .i32⟩
  | .hbm, ⟨7, _⟩ => ⟨S16x16, .i32⟩
  | _, _ => ⟨S16x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.ArgmaxIdealValue.lean ====
module

public import proofs.«01_k».proof.Proof.Gen.ArgmaxIdeal
public import proofs.«01_k».proof.Proof.Gen.ArgmaxIdeal.Skeleton

/-!
The values that one task of the SparseCore kernel computes, as plain functions of the row it fetched, at any float
instance: `chunk` the sixteen scores a load reads, `step` one trip of the kernel's loop, `carry` the running maxima and
their indices before a trip, `answer` the sixteen lanes the task stores.
-/

@[expose] public section

noncomputable section

namespace Cert.Proof.ArgmaxIdeal

open Cert.ArgmaxIdeal Cert.ArgmaxIdeal.Gen
open Idealize.ShloMosaic

variable {F : FTy → Type} [FloatOps F]

/-- Row `r` of the scores. -/
def rowOf (x : S16x16384.Idx → F .f32) (r : Fin 16) : Vec F S16384 .f32 :=
  fun k => x (fun | 0 => r | 1 => k 0)

/-- The sixteen scores of a row that load `u` of trip `k` reads: columns `128 k + 16 u` to `128 k + 16 u + 15`. -/
def chunk (row : Vec F S16384 .f32) (k u : ℕ) : Vec F S16 .f32 :=
  fun l => row (fun | 0 => ⟨(128 * k + 16 * u + (l 0).val) % 16384, Nat.mod_lt _ (by decide)⟩)

/-- The lanes' own numbers. -/
def lanes : IVec S16 32 := iota .scVector S16 32 [0] iota_S16_d0_w32_scVector

/-- The running maxima and their indices of a trip, from those before it and the trip's eight chunks. -/
def stepOf (k : Fin k0_t1_loop.trips) (acc : FVec F S16 .f32 × IVec S16 32) (c0 c1 c2 c3 c4 c5 c6 c7 : Vec F S16 .f32) :
    FVec F S16 .f32 × IVec S16 32 :=
  (k0_pay20 (k0_pay11 acc.1 c0 c1 c2 c3 c4) c5 c6 c7,
    k0_pay21 (Scalar.muli (Scf.iv 0#32 1#32 k.val) 128#32) (k0_pay11 acc.1 c0 c1 c2 c3 c4)
      (k0_pay12 lanes 0#32 1#32 k acc.1 acc.2 c0 c1 c2 c3 c4) c5 c6 c7)

theorem stepOf_congr (k : Fin k0_t1_loop.trips) (acc : FVec F S16 .f32 × IVec S16 32) {c0 c1 c2 c3 c4 c5 c6 c7 e0 e1 e2 e3 e4 e5 e6 e7 : Vec F S16 .f32}
    (h0 : c0 = e0) (h1 : c1 = e1) (h2 : c2 = e2) (h3 : c3 = e3) (h4 : c4 = e4) (h5 : c5 = e5) (h6 : c6 = e6) (h7 : c7 = e7) :
    stepOf k acc c0 c1 c2 c3 c4 c5 c6 c7 = stepOf k acc e0 e1 e2 e3 e4 e5 e6 e7 := by
  subst h0 h1 h2 h3 h4 h5 h6 h7; rfl

/-- One trip: the running maxima and their indices after the eight chunks of trip `k`. -/
def step (row : Vec F S16384 .f32) (k : Fin k0_t1_loop.trips) (acc : FVec F S16 .f32 × IVec S16 32) : FVec F S16 .f32 × IVec S16 32 :=
  stepOf k acc (chunk row k 0) (chunk row k 1) (chunk row k 2) (chunk row k 3) (chunk row k 4) (chunk row k 5) (chunk row k 6) (chunk row k 7)

/-- The running maxima and their indices before trip `k`. -/
def carry (row : Vec F S16384 .f32) : ℕ → FVec F S16 .f32 × IVec S16 32
  | 0 => (k0_pay13, k0_pay14)
  | k + 1 => if h : k < k0_t1_loop.trips then step row ⟨k, h⟩ (carry row k) else carry row k

theorem carry_succ (row : Vec F S16384 .f32) (k : Fin k0_t1_loop.trips) : carry row (k.val + 1) = step row k (carry row k.val) :=
  dif_pos k.isLt

/-- What the kernel makes of the maxima and indices after the loop. -/
def finish (c : FVec F S16 .f32 × IVec S16 32) : IVec S16 32 :=
  k0_pay1 c.1 c.2 (k0_pay22 c.1) (k0_pay23 c.1) (k0_pay24 c.1) (k0_pay25 c.1) (k0_pay26 c.1) (k0_pay27 c.1) (k0_pay28 c.1)
    (k0_pay29 c.1) (k0_pay30 c.1) (k0_pay31 c.1) (k0_pay32 c.1) (k0_pay33 c.1) (k0_pay34 c.1)

/-- The sixteen lanes the task stores for a row. -/
def answer (row : Vec F S16384 .f32) : IVec S16 32 := finish (carry row k0_t1_loop.trips)

/-- The whole result: row `r` holds the answer for row `r` of the scores. -/
def answers (x : S16x16384.Idx → F .f32) : S16x16.Idx → BitVec 32 :=
  fun j => answer (rowOf x (j 0)) (fun | 0 => j 1)

end Cert.Proof.ArgmaxIdeal
end
-- ==== Proof.ArgmaxIdealTile.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.ArgmaxIdeal
public import proofs.«01_k».proof.Proof.Gen.ArgmaxIdeal.Skeleton
public import proofs.«01_k».proof.Proof.ArgmaxIdealValue
public import Idealize.ShloMosaic.Lib.ValueLayout

@[expose] public section

noncomputable section

namespace Cert.Proof.ArgmaxIdeal

open Cert.ArgmaxIdeal Cert.ArgmaxIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the scratches -/

variable (m : (ℓ : Loc nD τ sig) → Buf (Elt F) ℓ) (ρ : Dev nD → PrngReg)

/-- The scores (the argument) and the answers (the result), as locations of device `d`. -/
abbrev xLoc (d : Dev nD) : Loc nD τ sig := (SparseCore.T d).loc main_arg0
abbrev oLoc (d : Dev nD) : Loc nD τ sig := (SparseCore.T d).loc main_v0

/-- The kernel's memrefs as the body table passes them: the scores, the answers, the row scratch and the answer scratch. -/
abbrev xV : Memref Cert.ArgmaxIdeal.sig Kind.scVector Space.hbm Cert.ArgmaxIdeal.S16x16384 EltTy.f32 := Memref.whole Cert.ArgmaxIdeal.main_arg0_scv
abbrev oV : Memref Cert.ArgmaxIdeal.sig Kind.scVector Space.hbm Cert.ArgmaxIdeal.S16x16 EltTy.i32 := Memref.whole Cert.ArgmaxIdeal.main_v0_scv
abbrev rV : Memref Cert.ArgmaxIdeal.sig Kind.scVector Space.vmem Cert.ArgmaxIdeal.S16384 EltTy.f32 := Memref.whole Cert.ArgmaxIdeal.cc0_scratch0
abbrev aV : Memref Cert.ArgmaxIdeal.sig Kind.scVector Space.vmem Cert.ArgmaxIdeal.S16 EltTy.i32 := Memref.whole Cert.ArgmaxIdeal.cc0_scratch1

theorem hdivX : 16 ∣ S16x16384.size 0 := ⟨1, rfl⟩
theorem hdivO : 16 ∣ S16x16.size 0 := ⟨1, rfl⟩
/-- Row `r` of the scores and row `r` of the answers. -/
abbrev xRow (r : Fin 16) : Rect S16x16384 := Rect.part (s := S16x16384) (a₀ := 0) hdivX r
abbrev oRow (r : Fin 16) : Rect S16x16 := Rect.part (s := S16x16) (a₀ := 0) hdivO r
abbrev xRowSet (r : Fin 16) : Finset S16x16384.Idx := (xV.view.slice (xRow r)).set
abbrev oRowSet (r : Fin 16) : Finset S16x16.Idx := (oV.view.slice (oRow r)).set

section Tile

variable (d : Dev nD) (L : grid0.Coords)

abbrev cV (L : grid0.Coords) : Fin τ.nSC := (L 0).castLE hcore0
abbrev jV (L : grid0.Coords) : Fin τ.nSub := (L 1).castLE hsub0

/-- The row subcore `s` of SparseCore `c` works on, when it is below 16. -/
abbrev wid (L : grid0.Coords) : ℕ := 2 * (L 1).val + (L 0).val

theorem cond_iff : ∀ L : grid0.Coords, k0_cond1 L = 1#1 ↔ wid L < 16 := by decide +kernel

variable (h1 : k0_cond1 L = 1#1)

abbrev wRow : Fin 16 := ⟨wid L, (cond_iff L).mp h1⟩

abbrev xRectK : Rect S16x16384 := Rect.unit (s := S16x16384) (k0_off1 L) S1x16384.size (k0_off1_inb L h1)
abbrev oRectK : Rect S16x16 := Rect.unit (s := S16x16) (k0_off3 L) S1x16.size (k0_off3_inb L h1)
abbrev xRowK : Memref sig .scVector .hbm S16384 .f32 := (xV.slice (xRectK L h1) (fun _ => rfl)).squeeze S16384 squeezes_S1x16384_S16384
abbrev oRowK : Memref sig .scVector .hbm S16 .i32 := (oV.slice (oRectK L h1) (fun _ => rfl)).squeeze S16 squeezes_S1x16_S16

theorem xRectK_eq : xRectK L h1 = xRow (wRow L h1) := by
  unfold xRectK xRow Rect.part Rect.block
  congr 1 <;> funext a
  · rw [k0_off1_eq]
    match a with
    | 0 => simp [Shape.partIx, Shape.partSize]
    | 1 => simp [Shape.partIx, Shape.partSize]
  · match a with
    | 0 => simp [Shape.partSize]
    | 1 => simp [Shape.partSize]
theorem oRectK_eq : oRectK L h1 = oRow (wRow L h1) := by
  unfold oRectK oRow Rect.part Rect.block
  congr 1 <;> funext a
  · rw [k0_off3_eq]
    match a with
    | 0 => simp [Shape.partIx, Shape.partSize]
    | 1 => simp [Shape.partIx, Shape.partSize]
  · match a with
    | 0 => simp [Shape.partSize]
    | 1 => simp [Shape.partSize]

theorem set_xRowK : (xRowK L h1).view.set = xRowSet (wRow L h1) := by
  show ((xV.view.slice (xRectK L h1)).reshape S16384 squeezes_S1x16384_S16384.numel_eq).set = (xV.view.slice (xRow (wRow L h1))).set
  rw [View.set_reshape]
  exact xRectK_eq L h1 ▸ rfl
theorem set_oRowK : (oRowK L h1).view.set = oRowSet (wRow L h1) := by
  show ((oV.view.slice (oRectK L h1)).reshape S16 squeezes_S1x16_S16.numel_eq).set = (oV.view.slice (oRow (wRow L h1))).set
  rw [View.set_reshape]
  exact oRectK_eq L h1 ▸ rfl

theorem pts_xRowK (f : Buf (Elt F) (xLoc d)) :
    ((xRowK L h1).view.loc (V d (cV L) (jV L)) ↦[(xRowK L h1).view.set]{fullShare} f : sProp 𝕄) = xLoc d ↦[xRowSet (wRow L h1)]{fullShare} f := by
  rw [set_xRowK]
theorem pts_oRowK (f : Buf (Elt F) (oLoc d)) :
    ((oRowK L h1).view.loc (V d (cV L) (jV L)) ↦[(oRowK L h1).view.set]{fullShare} f : sProp 𝕄) = oLoc d ↦[oRowSet (wRow L h1)]{fullShare} f := by
  rw [set_oRowK]
/-- The scratches whole, in the body's spelling. -/
theorem pts_rV (f : Buf (Elt F) ((V d (cV L) (jV L)).loc cc0_scratch0)) :
    (rV.view.loc (V d (cV L) (jV L)) ↦{fullShare} f : sProp 𝕄) = (V d (cV L) (jV L)).loc cc0_scratch0 ↦{fullShare} f := rfl
theorem pts_aV (f : Buf (Elt F) ((V d (cV L) (jV L)).loc cc0_scratch1)) :
    (aV.view.loc (V d (cV L) (jV L)) ↦{fullShare} f : sProp 𝕄) = (V d (cV L) (jV L)).loc cc0_scratch1 ↦{fullShare} f := rfl

/-- The two transfers' semaphores of one subcore. -/
abbrev inCell (d : Dev nD) (c : Fin τ.nSC) (i : Fin τ.nSub) : GSem nD τ sig := (V d c i, .dma cc0_scoped0.sem)
abbrev outCell (d : Dev nD) (c : Fin τ.nSC) (i : Fin τ.nSub) : GSem nD τ sig := (V d c i, .dma cc0_scoped1.sem)

theorem ownSems0_V :
    (ownSems0 (V d (cV L) (jV L)) : sProp 𝕄)
      = iprop(semVal (inCell d (cV L) (jV L)) 0 ∗ semVal (outCell d (cV L) (jV L)) 0
          ∗ bigSep (((ownCells (V d (cV L) (jV L))).erase (inCell d (cV L) (jV L))).erase (outCell d (cV L) (jV L))) fun g => semVal g 0) := by
  unfold SparseCore.Cfg.ownSems0
  rw [SparseCore.bigSep_erase' ((mem_ownCells (g := inCell d (cV L) (jV L))).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d (cV L) (jV L))).mpr ⟨rfl, by
      show (SemLoc.dma cc0_scoped1.sem : SemLoc sig).isScoped .scVector = true; decide⟩⟩)]

/-- A subcore's own buffers are the two scratches, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Row `r` of the scores at `f`, and row `r` of the answers at `f`. -/
abbrev xPts (d : Dev nD) (r : Fin 16) (f : Buf (Elt F) (xLoc d)) : sProp 𝕄 := xLoc d ↦[xRowSet r]{fullShare} f
abbrev oPts (d : Dev nD) (r : Fin 16) (f : Buf (Elt F) (oLoc d)) : sProp 𝕄 := oLoc d ↦[oRowSet r]{fullShare} f

variable [FloatOps F]

/-! ## The transfers and the loads, as functions of the contents -/

/-- An index of a row of 16384, put back under a leading unit axis. -/
theorem unsqueeze_x (y : S16384.Idx) :
    Shape.reshapeEquiv squeezes_S1x16384_S16384.numel_eq y = (fun | 0 => (0 : Fin 1) | 1 => y 0 : S1x16384.Idx) := by
  refine Shape.reshapeEquiv_eq_of_rowMajor _ ?_
  rw [Shape.rowMajor_val_two, Shape.rowMajor_val_one]
  show 0 * 16384 + (y 0).val = (y 0).val
  omega
theorem unsqueeze_o (y : S16.Idx) :
    Shape.reshapeEquiv squeezes_S1x16_S16.numel_eq y = (fun | 0 => (0 : Fin 1) | 1 => y 0 : S1x16.Idx) := by
  refine Shape.reshapeEquiv_eq_of_rowMajor _ ?_
  rw [Shape.rowMajor_val_two, Shape.rowMajor_val_one]
  show 0 * 16 + (y 0).val = (y 0).val
  omega

/-- Element `y` of the fetched row is column `y` of row `wid` of the scores; -/
theorem emb_xRowK (y : S16384.Idx) : (xRowK L h1).view.emb y = (fun | 0 => wRow L h1 | 1 => y 0 : S16x16384.Idx) := by
  show (xRectK L h1).emb (Shape.reshapeEquiv squeezes_S1x16384_S16384.numel_eq y) = _
  rw [unsqueeze_x]
  funext a; apply Fin.ext
  rw [Rect.emb_apply]
  match a with
  | 0 => simp [k0_off1_eq]
  | 1 => simp [k0_off1_eq]
/-- lane `y` of the stored answers is column `y` of row `wid` of the result. -/
theorem emb_oRowK (y : S16.Idx) : (oRowK L h1).view.emb y = (fun | 0 => wRow L h1 | 1 => y 0 : S16x16.Idx) := by
  show (oRectK L h1).emb (Shape.reshapeEquiv squeezes_S1x16_S16.numel_eq y) = _
  rw [unsqueeze_o]
  funext a; apply Fin.ext
  rw [Rect.emb_apply]
  match a with
  | 0 => simp [k0_off3_eq]
  | 1 => simp [k0_off3_eq]

/-- What the fetch reads is the row. -/
theorem read_xRowK (fx : Buf (Elt F) (xLoc d)) : (xRowK L h1).view.read (Elt F) fx = rowOf fx (wRow L h1) := by
  funext y
  rw [View.read_apply, emb_xRowK]
  rfl

/-- Load `u` of trip `k` reads `chunk`. -/
theorem load_chunk (row : Vec F S16384 .f32) (k : Fin k0_t1_loop.trips) (u : Fin 8)
    (h : ∀ a, k0_off2 k (BitVec.ofNat 32 (16 * u.val)) a + S16.size a ≤ S16384.size a) :
    rV.view.readAt (Elt F) (Rect.unit (s := S16384) (k0_off2 k (BitVec.ofNat 32 (16 * u.val))) S16.size h).toLoadRect row = chunk row k.val u.val := by
  funext l
  rw [View.readAt_apply]
  show row _ = row _
  congr 1
  funext a; apply Fin.ext
  match a with
  | 0 =>
    have hk : k.val < 128 := Nat.lt_of_lt_of_le k.isLt k0_t1_abs.2.1
    have hl : (l 0).val < 16 := (l 0).isLt
    have he := k0_off2_eq k u
    have h0 : (k0_off2 k (BitVec.ofNat 32 (16 * u.val))) 0 = 128 * k.val + 16 * u.val := congrFun he 0
    show (k0_off2 k (BitVec.ofNat 32 (16 * u.val))) 0 + 1 * (l 0).val = (128 * k.val + 16 * u.val + (l 0).val) % 16384
    rw [h0]
    have := u.isLt
    omega

/-- The sixteen lanes stored whole and read back. -/
theorem read_stored (fa : Buf (Elt F) ((V d (cV L) (jV L)).loc cc0_scratch1)) (w : S16.Idx → BitVec 32) :
    aV.view.read (Elt F) (aV.view.writes (Elt F) fa [⟨Rect.unit (s := S16) ![0] S16.size inb_S16_S16_0, w⟩]) = w := by
  funext y
  rw [View.writes_singleton]
  have h := View.write_emb_of_mem (v := aV.view.slice (Rect.unit (s := S16) ![0] S16.size inb_S16_S16_0)) (Val := Elt F) fa w (Finset.mem_univ y)
  have he : (aV.view.slice (Rect.unit (s := S16) ![0] S16.size inb_S16_S16_0)).emb y = aV.view.emb y := by
    show aV.view.emb ((Rect.unit (s := S16) ![0] S16.size inb_S16_S16_0).emb y) = _
    congr 1
    funext a; apply Fin.ext; rw [Rect.emb_apply]
    match a with
    | 0 => simp
  rw [he] at h
  exact h

/-- What the write-out leaves in row `wid` of the result, when the payload is the row's answer. -/
theorem pts_stored (fx : Buf (Elt F) (xLoc d)) (fo : Buf (Elt F) (oLoc d)) (w : S16.Idx → BitVec 32) (hw : w = answer (rowOf fx (wRow L h1))) :
    ((oRowK L h1).view.loc (V d (cV L) (jV L)) ↦[(oRowK L h1).view.set]{fullShare}
        (oRowK L h1).view.writes (Elt F) fo [⟨Rect.whole S16, w⟩] : sProp 𝕄) = oPts d (wRow L h1) (answers fx) := by
  subst hw
  refine Eq.trans ?_ (pts_oRowK (F := F) d L h1 (answers fx))
  refine pointsTo_congr fun i hi => ?_
  obtain ⟨y, -, rfl⟩ := Finset.mem_map.mp hi
  rw [View.writes_singleton]
  have h := View.write_emb_of_mem (v := (oRowK L h1).view.slice (Rect.whole S16)) (Val := Elt F) fo (answer (rowOf fx (wRow L h1))) (Finset.mem_univ y)
  have he : ((oRowK L h1).view.slice (Rect.whole S16)).emb y = (oRowK L h1).view.emb y := by
    show (oRowK L h1).view.emb ((Rect.whole S16).emb y) = _
    congr 1
    funext a; apply Fin.ext; rw [Rect.emb_apply]; simp [Rect.whole]
  rw [he] at h
  refine h.trans ?_
  rw [emb_oRowK]
  show answer _ y = answer _ _
  congr 1
  funext a
  match a with
  | 0 => rfl

theorem body_on (hF : (K (F := F)).Facts) (O : CellTallies nD τ sig (HIx 1)) (W : Waits sig (HIx 1)) (hO : ∀ g, O g none = 0)
    (fx : Buf (Elt F) (xLoc d)) (fo : Buf (Elt F) (oLoc d)) :
    iprop(levAts (K (F := F)).L (K (F := F)).lev ∗ emp
        ∗ (xPts d (wRow L h1) fx ∗ oPts d (wRow L h1) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_argmax L xV (Memref.isWhole_whole _) oV (Memref.isWhole_whole _) rV (Memref.isWhole_whole _) aV (Memref.isWhole_whole _) cc0_scoped0 cc0_scoped1)
          fun _ => iprop((xPts d (wRow L h1) fx ∗ oPts d (wRow L h1) (answers fx))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fr, Hr⟩, ⟨%fa, Ha⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRowK (F := F) d L h1 _).symm) $$ Hx
  ihave Ho' := (Entails.of_eq (pts_oRowK (F := F) d L h1 _).symm) $$ Ho
  ihave Hr' := (Entails.of_eq (pts_rV (F := F) d L _).symm) $$ Hr
  ihave Ha' := (Entails.of_eq (pts_aV (F := F) d L _).symm) $$ Ha
  rw [cc0_sc_argmax_eq_skeleton]; unfold cc0_sc_argmax_skel
  rw [k0_part2_eq_skeleton]; unfold k0_part2_skel
  sl_exec (disch := exact View.amount_pos _ _ (show 0 < S16384.numel by decide))
  rw [wp_bind]
  rw [show View.write (Elt F) rV.view fr (body_on.sl.dma0 d L h1 fx) Finset.univ = rowOf fx (wRow L h1) from by
    rw [show body_on.sl.dma0 d L h1 fx = (xRowK L h1).view.read (Elt F) fx from rfl, read_xRowK]
    funext y
    exact View.write_emb_of_mem (v := rV.view) (Val := Elt F) fr (rowOf fx (wRow L h1)) (Finset.mem_univ y)]
  sl_for (fun k acc => iprop(⌜acc = carry (rowOf fx (wRow L h1)) k⌝ ∗ rV.view.loc (V d (cV L) (jV L)) ↦{fullShare} rowOf fx (wRow L h1))) $$ [Hr']
  case region =>
    intro k acc
    iintro ⟨%hacc, Hr⟩
    unfold body_on.sl.prog.body_1 k0_t1_body
    rw [k0_part1_eq_skeleton]; unfold k0_part1_skel
    sl_exec
    sl_step
    isplitr
    · ipureintro
      subst hacc
      rw [carry_succ]
      unfold step body_on.sl.v69 body_on.sl.v5
      have hl := fun u h => load_chunk (F := F) (rowOf fx (wRow L h1)) k u h
      have h0 := hl 0 (k0_off2_inb L k h1 0)
      have h1' := hl 1 (k0_off2_inb L k h1 1)
      have h2 := hl 2 (k0_off2_inb L k h1 2)
      have h3 := hl 3 (k0_off2_inb L k h1 3)
      have h4 := hl 4 (k0_off2_inb L k h1 4)
      have h5 := hl 5 (k0_off2_inb L k h1 5)
      have h6 := hl 6 (k0_off2_inb L k h1 6)
      have h7 := hl 7 (k0_off2_inb L k h1 7)
      exact stepOf_congr (F := F) k _ h0 h1' h2 h3 h4 h5 h6 h7
    · iexact Hr
  · isplitr; · ipureintro; rfl
    iexact Hr'
  iintro %acc HI
  icases HI with ⟨%hacc, Hr⟩
  subst hacc
  sl_exec
  sl_step
  isplitl [Hx' Ho']
  · isplitl [Hx']; · iapply (Entails.of_eq (pts_xRowK (F := F) d L h1 _)); iexact Hx'
    iapply (Entails.of_eq (pts_stored (F := F) d L h1 fx fo (body_on.sl.dma2 d L h1 fx fa) (by
      unfold body_on.sl.dma2 body_on.sl.Ha'_1
      exact read_stored (F := F) d L fa _)))
    iexact Ho'
  isplitl [Hr Ha' Hbufs]
  · isplitl [Hr]; · iexists _; iexact Hr
    isplitl [Ha']; · iexists _; iexact Ha'
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

omit h1 in
/-- The body of a task with no row: nothing is touched. -/
theorem body_off (h1 : ¬ k0_cond1 L = 1#1) (O : CellTallies nD τ sig (HIx 1)) (W : Waits sig (HIx 1)) (R : sProp 𝕄) :
    iprop(levAts (K (F := F)).L (K (F := F)).lev ∗ emp ∗ R
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_argmax L xV (Memref.isWhole_whole _) oV (Memref.isWhole_whole _) rV (Memref.isWhole_whole _) aV (Memref.isWhole_whole _) cc0_scoped0 cc0_scoped1)
          fun _ => iprop(R ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  iintro ⟨-, -, HR, Hb, Hs, HO⟩
  rw [cc0_sc_argmax_eq_skeleton]; unfold cc0_sc_argmax_skel
  rw [dif_neg h1]
  sl_exec
  sl_step
  isplitl [HR]; · iexact HR
  isplitl [Hb]; · iexact Hb
  isplitl [Hs]; · iexact Hs
  iexists W; isplitr
  · ipureintro; exact fun p hp => .inl hp
  · iexact HO

/-! ## A task's share, at a symbolic (SparseCore, subcore) pair -/

end Tile

/-- The member of a family of sixteen that subcore `s` of SparseCore `c` works on: member `2 s + c`, or nothing. -/
def share {α : Type} (S : Fin 16 → Finset α) (c : Fin 2) (s : Fin 16) : Finset α :=
  if h : 2 * s.val + c.val < 16 then S ⟨2 * s.val + c.val, h⟩ else ∅

theorem share_disjoint {α : Type} [DecidableEq α] {S : Fin 16 → Finset α} (hS : ∀ i j, i ≠ j → Disjoint (S i) (S j)) {p q : Fin 2 × Fin 16} (h : p ≠ q) :
    Disjoint (share S p.1 p.2) (share S q.1 q.2) := by
  unfold share
  split
  · split
    · refine hS _ _ fun e => h ?_
      have e' := congrArg Fin.val e
      have h1 := p.1.isLt
      have h2 := q.1.isLt
      simp only at e'
      exact Prod.ext (Fin.ext (by omega)) (Fin.ext (by omega))
    · exact Finset.disjoint_empty_right _
  · exact Finset.disjoint_empty_left _

/-- What the sixteen subcores of SparseCore `c` work on. -/
def shares {α : Type} [DecidableEq α] (S : Fin 16 → Finset α) (c : Fin 2) : Finset α := Finset.univ.biUnion (share S c)

theorem shares_disjoint {α : Type} [DecidableEq α] {S : Fin 16 → Finset α} (hS : ∀ i j, i ≠ j → Disjoint (S i) (S j)) {c c' : Fin 2} (h : c ≠ c') :
    Disjoint (shares S c) (shares S c') := by
  unfold shares
  rw [Finset.disjoint_biUnion_left]; intro s _
  rw [Finset.disjoint_biUnion_right]; intro s' _
  exact share_disjoint hS (p := (c, s)) (q := (c', s')) fun e => h (congrArg Prod.fst e)

theorem shares_cover {α : Type} [DecidableEq α] [Fintype α] {S : Fin 16 → Finset α} (hS : Finset.univ.biUnion S = Finset.univ) :
    Finset.univ.biUnion (shares S) = Finset.univ := by
  refine Finset.eq_univ_iff_forall.mpr fun x => ?_
  obtain ⟨r, -, hr⟩ := Finset.mem_biUnion.mp (hS ▸ Finset.mem_univ x)
  refine Finset.mem_biUnion.mpr ⟨⟨r.val % 2, Nat.mod_lt _ (by decide)⟩, Finset.mem_univ _, Finset.mem_biUnion.mpr
    ⟨⟨r.val / 2, by have := r.isLt; omega⟩, Finset.mem_univ _, ?_⟩⟩
  have e : 2 * (r.val / 2) + r.val % 2 = r.val := Nat.div_add_mod _ _
  unfold share
  rw [dif_pos (show 2 * (r.val / 2) + r.val % 2 < 16 by rw [e]; exact r.isLt)]
  rw [show (⟨2 * (r.val / 2) + r.val % 2, by rw [e]; exact r.isLt⟩ : Fin 16) = r from Fin.ext e]
  exact hr

theorem xRowSet_eq (i : Fin 16) : xRowSet i = (xRow i).set := by
  show ((View.whole (main_arg0_scv : Ref sig .scVector)).slice (xRow i)).set = _
  rw [View.set_slice]; exact Finset.map_refl
theorem oRowSet_eq (i : Fin 16) : oRowSet i = (oRow i).set := by
  show ((View.whole (main_v0_scv : Ref sig .scVector)).slice (oRow i)).set = _
  rw [View.set_slice]; exact Finset.map_refl
theorem xRows_disjoint : ∀ i j, i ≠ j → Disjoint (xRowSet i) (xRowSet j) :=
  fun i j h => by rw [xRowSet_eq, xRowSet_eq]; exact Rect.part_disjoint hdivX h
theorem oRows_disjoint : ∀ i j, i ≠ j → Disjoint (oRowSet i) (oRowSet j) :=
  fun i j h => by rw [oRowSet_eq, oRowSet_eq]; exact Rect.part_disjoint hdivO h
theorem xRows_cover : (Finset.univ : Finset (Fin 16)).biUnion xRowSet = Finset.univ :=
  (Finset.biUnion_congr rfl fun i _ => xRowSet_eq i).trans (Rect.biUnion_part hdivX)
theorem oRows_cover : (Finset.univ : Finset (Fin 16)).biUnion oRowSet = Finset.univ :=
  (Finset.biUnion_congr rfl fun i _ => oRowSet_eq i).trans (Rect.biUnion_part hdivO)

/-- The share of subcore `s` of SparseCore `c`: its row of the scores at `fx` and of the answers at `fo`. -/
abbrev tile (d : Dev nD) (c : Fin 2) (s : Fin 16) (fx : Buf (Elt F) (xLoc d)) (fo : Buf (Elt F) (oLoc d)) : sProp 𝕄 :=
  iprop((xLoc d ↦[share xRowSet c s]{fullShare} fx) ∗ oLoc d ↦[share oRowSet c s]{fullShare} fo)
/-- The share of SparseCore `c`. -/
abbrev core (d : Dev nD) (c : Fin 2) (fx : Buf (Elt F) (xLoc d)) (fo : Buf (Elt F) (oLoc d)) : sProp 𝕄 :=
  iprop((xLoc d ↦[shares xRowSet c]{fullShare} fx) ∗ oLoc d ↦[shares oRowSet c]{fullShare} fo)

theorem tile_on (d : Dev nD) (L : grid0.Coords) (h1 : k0_cond1 L = 1#1) (fx : Buf (Elt F) (xLoc d)) (fo : Buf (Elt F) (oLoc d)) :
    (tile d (L 0) (L 1) fx fo : sProp 𝕄) = iprop(xPts d (wRow L h1) fx ∗ oPts d (wRow L h1) fo) := by
  have h := (cond_iff L).mp h1
  have hx : share xRowSet (L 0) (L 1) = xRowSet (wRow L h1) := dif_pos h
  have ho : share oRowSet (L 0) (L 1) = oRowSet (wRow L h1) := dif_pos h
  unfold tile; rw [hx, ho]

theorem tile_off (d : Dev nD) (L : grid0.Coords) (h1 : ¬ k0_cond1 L = 1#1) (fx : Buf (Elt F) (xLoc d)) (fo fo' : Buf (Elt F) (oLoc d)) :
    (tile d (L 0) (L 1) fx fo : sProp 𝕄) = tile d (L 0) (L 1) fx fo' := by
  have h : ¬ wid L < 16 := fun h => h1 ((cond_iff L).mpr h)
  have ho : share oRowSet (L 0) (L 1) = ∅ := dif_neg h
  unfold tile
  congr 1
  refine pointsTo_congr fun i hi => absurd hi ?_
  rw [ho]; exact Finset.notMem_empty _

theorem core_tiles (d : Dev nD) (c : Fin 2) (fx : Buf (Elt F) (xLoc d)) (fo : Buf (Elt F) (oLoc d)) :
    (core d c fx fo : sProp 𝕄) = bigSep Finset.univ fun s : Fin 16 => tile d c s fx fo := by
  unfold core shares
  rw [pointsTo_biUnion Finset.univ (ℓ := xLoc d) (share xRowSet c) (fun s _ s' _ h => share_disjoint xRows_disjoint (p := (c, s)) (q := (c, s')) fun e => h (congrArg Prod.snd e)),
    pointsTo_biUnion Finset.univ (ℓ := oLoc d) (share oRowSet c) (fun s _ s' _ h => share_disjoint oRows_disjoint (p := (c, s)) (q := (c, s')) fun e => h (congrArg Prod.snd e)),
    ← bigSep_sep']

theorem whole_cores (d : Dev nD) (fx : Buf (Elt F) (xLoc d)) (fo : Buf (Elt F) (oLoc d)) :
    (bigSep Finset.univ fun c : Fin 2 => core d c fx fo : sProp 𝕄) = iprop((xLoc d ↦{fullShare} fx) ∗ oLoc d ↦{fullShare} fo) := by
  unfold core
  rw [bigSep_sep', ← pointsTo_biUnion Finset.univ (ℓ := xLoc d) (shares xRowSet) (fun _ _ _ _ h => shares_disjoint xRows_disjoint h),
    ← pointsTo_biUnion Finset.univ (ℓ := oLoc d) (shares oRowSet) (fun _ _ _ _ h => shares_disjoint oRows_disjoint h)]
  rw [show Finset.univ.biUnion (shares xRowSet) = (Finset.univ : Finset (Idx (xLoc d))) from shares_cover xRows_cover,
    show Finset.univ.biUnion (shares oRowSet) = (Finset.univ : Finset (Idx (oLoc d))) from shares_cover oRows_cover]

/-! ## What the handshakes carry -/

variable [FloatOps F]

/-- The one call hands each SparseCore its rows and each task its row, the answers at their launch contents, and brings them
    back with the answers computed. -/
def P : (K (F := F)).Pay (nD := nD) (Val := Elt F) (Name := ℕ) (U := UU) where
  st := fun q d c => match q with | 0 => core d (Fin.cast nCore_zero c) (m (xLoc d)) (m (oLoc d))
  dn := fun q d c => match q with | 0 => core d (Fin.cast nCore_zero c) (m (xLoc d)) (answers (m (xLoc d)))
  go := fun q d c i => match q with | 0 => tile d (Fin.cast nCore_zero c) (Fin.cast nSub_zero i) (m (xLoc d)) (m (oLoc d))
  td := fun q d c i => match q with | 0 => tile d (Fin.cast nCore_zero c) (Fin.cast nSub_zero i) (m (xLoc d)) (answers (m (xLoc d)))
  x := fun _ _ => iprop(emp)

instance P_storable : (P (F := F) m).IsStorable where
  st q d c := match q with
    | 0 => (inferInstance : BI.Storable (upEmb : UEmb _ 𝕄) (core d (Fin.cast nCore_zero c) (m (xLoc d)) (m (oLoc d))))
  dn q d c := match q with
    | 0 => (inferInstance : BI.Storable (upEmb : UEmb _ 𝕄) (core d (Fin.cast nCore_zero c) (m (xLoc d)) (answers (m (xLoc d)))))
  go q d c i := match q with
    | 0 => (inferInstance : BI.Storable (upEmb : UEmb _ 𝕄) (tile d (Fin.cast nCore_zero c) (Fin.cast nSub_zero i) (m (xLoc d)) (m (oLoc d))))
  td q d c i := match q with
    | 0 => (inferInstance : BI.Storable (upEmb : UEmb _ 𝕄) (tile d (Fin.cast nCore_zero c) (Fin.cast nSub_zero i) (m (xLoc d)) (answers (m (xLoc d)))))

/-! ## The task -/

/-- The task of subcore `L 1` of SparseCore `L 0`: its row's answer computed, or nothing done where it has no row. -/
theorem tile_body (d : Dev nD) (L : grid0.Coords) (hF : (K (F := F)).Facts) (O : CellTallies nD τ sig (HIx 1)) (W : Waits sig (HIx 1)) (hO : ∀ g, O g none = 0)
    (fx : Buf (Elt F) (xLoc d)) (fo : Buf (Elt F) (oLoc d)) :
    iprop(levAts (K (F := F)).L (K (F := F)).lev ∗ emp ∗ tile d (L 0) (L 1) fx fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_argmax L xV (Memref.isWhole_whole _) oV (Memref.isWhole_whole _) rV (Memref.isWhole_whole _) aV (Memref.isWhole_whole _) cc0_scoped0 cc0_scoped1)
          fun _ => iprop(tile d (L 0) (L 1) fx (answers fx)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases h1 : k0_cond1 L = 1#1
  · rw [tile_on d L h1, tile_on d L h1]
    exact body_on d L h1 hF O W hO fx fo
  · rw [tile_off d L h1 fx fo (answers fx)]
    exact body_off d L h1 O W _

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_argmax (coordsV c s)
          xV (Memref.isWhole_whole _) oV (Memref.isWhole_whole _) rV (Memref.isWhole_whole _) aV (Memref.isWhole_whole _) cc0_scoped0 cc0_scoped1) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO (m (xLoc d)) (m (oLoc d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show core d (Fin.cast nCore_zero c) (m (xLoc d)) (m (oLoc d)) ⊢ |={Set.univ}=> iprop(
      (bigSep Finset.univ fun i : Fin ((K (F := F)).nSub 0) => tile d (Fin.cast nCore_zero c) (Fin.cast nSub_zero i) (m (xLoc d)) (m (oLoc d)))
      ∗ ((bigSep Finset.univ fun i : Fin ((K (F := F)).nSub 0) => tile d (Fin.cast nCore_zero c) (Fin.cast nSub_zero i) (m (xLoc d)) (answers (m (xLoc d))))
          -∗ core d (Fin.cast nCore_zero c) (m (xLoc d)) (answers (m (xLoc d)))))
  rw [bigSep_tasks (F := F) (fun i => tile d (Fin.cast nCore_zero c) i (m (xLoc d)) (m (oLoc d))),
    bigSep_tasks (F := F) (fun i => tile d (Fin.cast nCore_zero c) i (m (xLoc d)) (answers (m (xLoc d)))), ← core_tiles, ← core_tiles]
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)) := by
  unfold unscopedBufs
  rw [show (Finset.univ.filter fun b : Ref sig .tc => ¬ b.isScoped) = {main_arg0, main_v0} by decide,
    SparseCore.bigSep_insert' (by decide), bigSep_singleton]

theorem st0_eq (d : Dev nD) :
    (bigSep Finset.univ fun c : Fin ((K (F := F)).nCore 0) => (P m).st 0 d c) = iprop((xLoc d ↦{fullShare} m (xLoc d)) ∗ oLoc d ↦{fullShare} m (oLoc d)) :=
  (bigSep_cores (F := F) (fun c => core d c (m (xLoc d)) (m (oLoc d)))).trans (whole_cores d _ _)
theorem dn0_eq (d : Dev nD) :
    (bigSep Finset.univ fun c : Fin ((K (F := F)).nCore 0) => (P m).dn 0 d c)
      = iprop((xLoc d ↦{fullShare} m (xLoc d)) ∗ oLoc d ↦{fullShare} answers (m (xLoc d))) :=
  (bigSep_cores (F := F) (fun c => core d c (m (xLoc d)) (answers (m (xLoc d))))).trans (whole_cores d _ _)

abbrev FIN (d : Dev nD) : sProp 𝕄 := iprop((xLoc d ↦{fullShare} m (xLoc d)) ∗ oLoc d ↦{fullShare} answers (m (xLoc d)))

/-- @main on device `d`'s TensorCore: the one call, from the two arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop := s'.mem.mem (xLoc d) = m (xLoc d) ∧ s'.mem.mem (oLoc d) = answers (m (xLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := answers (m (xLoc d)))) $$ [HSI Ho]
  · isplitl [HSI] <;> iassumption
  icases H with %ho
  ipureintro; exact ⟨funext fun i => hx i (Finset.mem_univ i), funext fun i => ho i (Finset.mem_univ i)⟩

/-! ## The program's run and its frame -/

/-- After the run: the scores unchanged, the answers computed, every semaphore back at zero. -/
def QC : PUnit × MemSt nD τ sig (Elt F) → Prop := fun r =>
  (∀ c : Dev nD, r.2.mem (xLoc c) = m (xLoc c) ∧ r.2.mem (oLoc c) = answers (m (xLoc c))) ∧ r.2.sem = fun _ => 0

theorem run_main [∀ e, Nonempty (Elt F e)] : θ_run (Cert.ArgmaxIdeal.defs (F := F)) (Cert.ArgmaxIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.ArgmaxIdeal

end
-- ==== Proof.ArgmaxRefRun.lean ====
module

public import proofs.«01_k».proof.Proof.Gen.ArgmaxRefIdeal
public import Idealize.ShloMosaic.Lib.StableHlo.Run

/-!
The reference of the SparseCore call, run: its seven host operations as a list, and what its result holds afterwards as a
function of the scores.
-/

@[expose] public section

noncomputable section

namespace Cert.Proof.ArgmaxRef

open Cert.ArgmaxRefIdeal Cert.ArgmaxRefIdeal.Gen Idealize.ShloMosaic Idealize.ShloMosaic.TcCoe Idealize.SL.Sem Idealize.ShloMosaic.StableHlo

variable {F : FTy → Type} [FloatOps F]

/-- The two-operand reduction of the scores and their column numbers along each row. -/
def reduced (x : FVec F S16x16384 .f32) : S16.Idx → F .f32 × BitVec 32 :=
  Host.argReduce reducer_argmax_f32_i32 x (iotaInDim S16x16384 32 1) (constant S_ .f32 0xFF800000#32) (constantI S_ 32 0#32)
    reducesTo_S16x16384_S16_d1 h_S_

/-- What the reference returns: each row's column number in all sixteen lanes. -/
def result (x : FVec F S16x16384 .f32) : S16x16.Idx → BitVec 32 :=
  broadcastInDim S16x16 ![0, 1] bcast_S16x1_S16x16_0_1 (broadcastInDim S16x1 ![0] bcast_S16_S16x1_0 fun j => (reduced x j).2)

/-- The host operations, in order. -/
abbrev ops : List (HloOp τ sig (Elt F)) :=
  [ TRef.nullary main_call0.v0 (iotaInDim S16x16384 32 1),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S16x16384_S16_d1 h_S_ j).1),
    TRef.quaternary (.of main_arg0) main_call0.v0 main_call0.cst main_call0.c main_call0.v1_1
      (fun x y u v j => (Host.argReduce reducer_argmax_f32_i32 x y u v reducesTo_S16x16384_S16_d1 h_S_ j).2),
    unary main_v0 main_v1 (broadcastInDim S16x1 ![0] bcast_S16_S16x1_0 : (⟨S16, .i32⟩ : BufTy).Contents (Elt F) → (⟨S16x1, .i32⟩ : BufTy).Contents (Elt F)),
    unary main_v1 main_v2 (broadcastInDim S16x16 ![0, 1] bcast_S16x1_S16x16_0_1 : (⟨S16x1, .i32⟩ : BufTy).Contents (Elt F) → (⟨S16x16, .i32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., unary_bufs_sub ..⟩

/-- After the run the result is `result` of the scores, and the scores are unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0)) :=
  (θ_run defs _ _).mono (fun _ h c => ⟨(h c main_v2).trans (by after_results <;> rfl),
      (h c main_arg0).trans (by after_results <;> rfl)⟩)
    (run_seq scopedRefs_eq scopedSems_eq defs main (fun _ => ops) main_eq (fun _ => ops_sub) m ρ)

end Cert.Proof.ArgmaxRef

end
-- ==== Proof.FirstMax.lean ====
module

public import Idealize.ShloMosaic.PureOps.Ideal.Laws
public import Idealize.ShloMosaic.PureOps.Reduce

/-!
The first maximum of finitely many extended reals, and the two ways of computing it that the SparseCore kernel and its
reference use: a strictly-greater update along a sequence, and the combination of sixteen interleaved sequences by the
largest value and, among those that attain it, the least index.
-/

@[expose] public section

namespace Cert.Proof.FirstMax

open Idealize.ShloMosaic

/-- `M` is the largest of the first `n` terms of `g` (`⊥` of none) and `J` the number `num` gives the first term that
attains it, or 0 when every term is `⊥`. -/
structure Best (g : ℕ → EReal) (num : ℕ → ℕ) (n : ℕ) (M : EReal) (J : BitVec 32) : Prop where
  le : ∀ i, i < n → g i ≤ M
  arg : (M = ⊥ ∧ J = 0#32) ∨ (⊥ < M ∧ ∃ i, i < n ∧ g i = M ∧ J = BitVec.ofNat 32 (num i) ∧ ∀ i', i' < i → g i' < M)

variable {g : ℕ → EReal} {num : ℕ → ℕ} {n : ℕ} {M : EReal} {J : BitVec 32}

theorem Best.zero : Best g num 0 ⊥ 0#32 := ⟨fun _ h => absurd h (Nat.not_lt_zero _), .inl ⟨rfl, rfl⟩⟩

/-- A term greater than the maximum so far takes its place. -/
theorem Best.take (h : Best g num n M J) (hg : M < g n) : Best g num (n + 1) (g n) (BitVec.ofNat 32 (num n)) := by
  refine ⟨fun i hi => ?_, .inr ⟨lt_of_le_of_lt bot_le hg, n, Nat.lt_succ_self n, rfl, rfl, fun i' hi' => lt_of_le_of_lt (h.le i' hi') hg⟩⟩
  rcases Nat.lt_succ_iff_lt_or_eq.mp hi with hi | rfl
  · exact (h.le i hi).trans hg.le
  · exact le_rfl

/-- Any other leaves it. -/
theorem Best.keep (h : Best g num n M J) (hg : g n ≤ M) : Best g num (n + 1) M J := by
  refine ⟨fun i hi => ?_, ?_⟩
  · rcases Nat.lt_succ_iff_lt_or_eq.mp hi with hi | rfl
    · exact h.le i hi
    · exact hg
  · rcases h.arg with h' | ⟨hM, i, hi, h'⟩
    · exact .inl h'
    · exact .inr ⟨hM, i, Nat.lt_succ_of_lt hi, h'⟩

theorem Best.le_of (h : Best g num n M J) {M' : EReal} (hle : ∀ i, i < n → g i ≤ M') : M ≤ M' := by
  rcases h.arg with ⟨hM, -⟩ | ⟨-, i, hi, he, -⟩
  · rw [hM]; exact bot_le
  · rw [← he]; exact hle i hi

/-- The maximum and its first index are determined by the terms. -/
theorem Best.unique {M' : EReal} {J' : BitVec 32} (h : Best g num n M J) (h' : Best g num n M' J') : J = J' := by
  have hM : M = M' := le_antisymm (h.le_of h'.le) (h'.le_of h.le)
  subst hM
  rcases h.arg with ⟨hb, hJ⟩ | ⟨hb, i, hi, he, hJ, hf⟩
  · rcases h'.arg with ⟨-, hJ'⟩ | ⟨hb', -⟩
    · rw [hJ, hJ']
    · exact absurd hb (ne_of_gt hb')
  · rcases h'.arg with ⟨hb', -⟩ | ⟨-, i', hi', he', hJ', hf'⟩
    · exact absurd hb' (ne_of_gt hb)
    · have : i = i' := by
        rcases lt_trichotomy i i' with hlt | heq | hgt
        · exact absurd he (ne_of_lt (hf' i hlt))
        · exact heq
        · exact absurd he' (ne_of_lt (hf i' hgt))
      rw [hJ, hJ', this]

/-! ## Sixteen interleaved sequences -/

/-- The sixteen sequences' first maxima combined: the largest of their maxima, and the least of the indices of those that
attain it, the others giving way to a number above every index. -/
theorem Best.combine {x : ℕ → EReal} {m : Fin 16 → EReal} {j : Fin 16 → BitVec 32} {Mx : EReal} {R : BitVec 32}
    (h : ∀ l : Fin 16, Best (fun i => x (16 * i + l.val)) (fun i => 16 * i + l.val) 1024 (m l) (j l))
    (hle : ∀ l, m l ≤ Mx) (hat : ∃ l, m l = Mx)
    (hR : ∃ l, R = (if m l = Mx then j l else 2147483647#32)
      ∧ ∀ l', R.toNat ≤ (if m l' = Mx then j l' else 2147483647#32).toNat) :
    Best x id 16384 Mx R := by
  have hx : ∀ c, c < 16384 → x c ≤ m ⟨c % 16, Nat.mod_lt _ (by decide)⟩ := fun c hc => by
    have := (h ⟨c % 16, Nat.mod_lt _ (by decide)⟩).le (c / 16) (by omega)
    simpa only [Nat.div_add_mod] using this
  refine ⟨fun c hc => (hx c hc).trans (hle _), ?_⟩
  obtain ⟨l, hl, hmin⟩ := hR
  by_cases hb : Mx = ⊥
  · refine .inl ⟨hb, ?_⟩
    have hm : ∀ l, m l = Mx := fun l => le_antisymm (hle l) (hb ▸ bot_le)
    rw [hl, if_pos (hm l)]
    rcases (h l).arg with ⟨-, hJ⟩ | ⟨hlt, -⟩
    · exact hJ
    · exact absurd ((hm l).trans hb) (ne_of_gt hlt)
  · have hb' : ⊥ < Mx := bot_lt_iff_ne_bot.mpr hb
    -- the number of a sequence that attains the maximum
    have hj : ∀ l, m l = Mx → ∃ i, i < 1024 ∧ x (16 * i + l.val) = Mx ∧ (j l).toNat = 16 * i + l.val
        ∧ j l = BitVec.ofNat 32 (16 * i + l.val) ∧ ∀ i', i' < i → x (16 * i' + l.val) < Mx := fun l hm => by
      rcases (h l).arg with ⟨hbot, -⟩ | ⟨-, i, hi, he, hJ, hf⟩
      · exact absurd (hm.symm.trans hbot) hb
      · refine ⟨i, hi, he.trans hm, ?_, hJ, fun i' hi' => hm ▸ hf i' hi'⟩
        rw [hJ, BitVec.toNat_ofNat, Nat.mod_eq_of_lt (by have := l.isLt; omega)]
    have hml : m l = Mx := by
      by_contra hne
      obtain ⟨l', hm'⟩ := hat
      obtain ⟨i, hi, -, ht, -⟩ := hj l' hm'
      have := hmin l'
      rw [hl, if_neg hne, if_pos hm', ht] at this
      have h2 : (2147483647#32).toNat = 2147483647 := rfl
      have := l'.isLt
      omega
    obtain ⟨i, hi, he, ht, hJ, hf⟩ := hj l hml
    rw [if_pos hml] at hl
    refine .inr ⟨hb', 16 * i + l.val, by have := l.isLt; omega, he, by rw [hl, hJ]; rfl, fun c hc => ?_⟩
    have hc' : c < 16384 := by have := l.isLt; omega
    refine lt_of_le_of_ne ((hx c hc').trans (hle _)) fun heq => ?_
    have hm' : m ⟨c % 16, Nat.mod_lt _ (by decide)⟩ = Mx := le_antisymm (hle _) (heq ▸ hx c hc')
    obtain ⟨i', hi', he', ht', -, hf'⟩ := hj _ hm'
    have hle' : i' ≤ c / 16 := by
      by_contra hlt
      have := hf' (c / 16) (by omega)
      simp only [Nat.div_add_mod] at this
      exact absurd heq (ne_of_lt this)
    have := hmin ⟨c % 16, Nat.mod_lt _ (by decide)⟩
    rw [if_pos hm', ht', hl, ht] at this
    simp only at this
    omega

/-! ## A list's fold -/

/-- A strictly increasing enumeration of the indices that satisfy a condition lists them in order. -/
theorem filter_finRange_eq_map {N k : ℕ} (p : Fin N → Prop) [DecidablePred p] (f : Fin k → Fin N) (hf : StrictMono f)
    (hp : ∀ n, p n ↔ ∃ i, f i = n) : (List.finRange N).filter (fun n => p n) = (List.finRange k).map f := by
  refine List.Perm.eq_of_pairwise (le := (· < ·)) (fun a b _ _ h h' => absurd h' (lt_asymm h)) ?_ ?_ ?_
  · exact List.Pairwise.filter _ (List.pairwise_lt_finRange N)
  · exact List.Pairwise.map f (fun _ _ h => hf h) (List.pairwise_lt_finRange k)
  · refine (List.perm_ext_iff_of_nodup ((List.nodup_finRange N).filter _) ((List.nodup_finRange k).map hf.injective)).mpr fun n => ?_
    simp [hp]

/-- A left fold over the first `n` numbers that preserves `Q` from each to the next ends at `Q n`. -/
theorem foldl_finRange {α : Type} (N : ℕ) (f : α → Fin N → α) (Q : ℕ → α → Prop) (a : α) (h0 : Q 0 a)
    (hs : ∀ (i : Fin N) (b : α), Q i.val b → Q (i.val + 1) (f b i)) : Q N ((List.finRange N).foldl f a) := by
  induction N with
  | zero => simpa using h0
  | succ N ih =>
    rw [List.finRange_succ_last, List.foldl_append, List.foldl_map]
    exact hs (Fin.last N) _ (ih (fun b i => f b i.castSucc) fun i b hb => hs i.castSucc b hb)

/-- The least of a list, unsigned, by a left fold from a first term. -/
theorem foldl_minui {ι : Type} (v : ι → BitVec 32) : ∀ (L : List ι) (i₀ : ι), ∃ i ∈ i₀ :: L,
    L.foldl (fun r k => IntOp.minui r (v k)) (v i₀) = v i ∧ ∀ k ∈ i₀ :: L, (v i).toNat ≤ (v k).toNat
  | [], i₀ => ⟨i₀, List.mem_singleton_self _, rfl, fun k hk => by rw [List.mem_singleton.mp hk]⟩
  | a :: L, i₀ => by
    by_cases hlt : (v i₀).toNat < (v a).toNat
    · obtain ⟨i, hi, he, hm⟩ := foldl_minui v L i₀
      refine ⟨i, ?_, ?_, ?_⟩
      · rcases List.mem_cons.mp hi with rfl | hi
        · exact List.mem_cons_self
        · exact List.mem_cons_of_mem _ (List.mem_cons_of_mem _ hi)
      · rw [List.foldl_cons, show IntOp.minui (v i₀) (v a) = v i₀ by simp [IntOp.minui, BitVec.ult, hlt]]; exact he
      · intro k hk
        rcases List.mem_cons.mp hk with rfl | hk
        · exact hm _ List.mem_cons_self
        · rcases List.mem_cons.mp hk with rfl | hk
          · exact (hm i₀ List.mem_cons_self).trans hlt.le
          · exact hm k (List.mem_cons_of_mem _ hk)
    · obtain ⟨i, hi, he, hm⟩ := foldl_minui v L a
      refine ⟨i, List.mem_cons_of_mem _ hi, ?_, ?_⟩
      · rw [List.foldl_cons, show IntOp.minui (v i₀) (v a) = v a by simp [IntOp.minui, BitVec.ult, hlt]]; exact he
      · intro k hk
        rcases List.mem_cons.mp hk with rfl | hk
        · exact (hm a List.mem_cons_self).trans (Nat.le_of_not_lt hlt)
        · exact hm k hk

end Cert.Proof.FirstMax
end
-- ==== Proof.ArgmaxIdealMath.lean ====
module

public import proofs.«01_k».proof.Proof.ArgmaxIdealValue
public import proofs.«01_k».proof.Proof.FirstMax
public import Idealize.ShloMosaic.Lib.SortNet.Words

/-!
The SparseCore kernel's value over the extended reals: lane `l` of its loop carries the first maximum of the row's columns
`l`, `l + 16`, `l + 32`, …, and the number it stores is the first column that holds the row's maximum.
-/

@[expose] public section

noncomputable section

namespace Cert.Proof.ArgmaxIdeal

open Cert.ArgmaxIdeal Cert.ArgmaxIdeal.Gen Cert.Proof.FirstMax
open Idealize.ShloMosaic

/-- Column `c` of a row, columns past the last being read around. -/
def col (row : Vec Ideal S16384 .f32) (c : ℕ) : EReal := row (fun | 0 => ⟨c % 16384, Nat.mod_lt _ (by decide)⟩)

/-- Lane `l` of sixteen. -/
def lane (l : Fin 16) : S16.Idx := fun | 0 => l

theorem eq_lane (i : S16.Idx) : i = lane (i 0) := funext fun | 0 => rfl

theorem ofLane_eq (k : Fin 16) : (Shape.ofLane (d := ![16]) k : S16.Idx) = lane k := funext fun | 0 => rfl

/-- One lane's update by one score: a strictly greater one replaces the maximum and its index. -/
def upd (x : EReal) (j : BitVec 32) (p : EReal × BitVec 32) : EReal × BitVec 32 :=
  (Scalar.select (FloatOps.cmpf (F := Ideal) (φ := .f32) .ogt x p.1) x p.1,
    Scalar.select (FloatOps.cmpf (F := Ideal) (φ := .f32) .ogt x p.1) j p.2)

/-- The index lane `l` gives its score of chunk `u` of trip `k`. -/
def idx (k u : ℕ) (l : Fin 16) : BitVec 32 :=
  IntOp.addi (IntOp.addi (IntOp.muli (Scf.iv 0#32 1#32 k) 128#32) (BitVec.ofNat 32 (16 * u))) (lanes (lane l))

theorem lanes_lane (l : Fin 16) : lanes (lane l) = BitVec.ofNat 32 l.val := by
  revert l; decide

theorem idx_eq (k u : ℕ) (l : Fin 16) : idx k u l = BitVec.ofNat 32 (16 * (8 * k + u) + l.val) := by
  unfold idx
  rw [lanes_lane]
  apply BitVec.eq_of_toNat_eq
  simp [IntOp.addi, IntOp.muli, Scf.iv, BitVec.toNat_add, BitVec.toNat_mul, BitVec.toNat_ofNat]
  omega

/-- A trip at one lane: the eight updates in turn. -/
theorem step_lane (row : Vec Ideal S16384 .f32) (k : Fin k0_t1_loop.trips) (acc : FVec Ideal S16 .f32 × IVec S16 32) (l : Fin 16) :
    ((step row k acc).1 (lane l), (step row k acc).2 (lane l))
      = upd (chunk row k 7 (lane l)) (idx k 7 l) (upd (chunk row k 6 (lane l)) (idx k 6 l) (upd (chunk row k 5 (lane l)) (idx k 5 l)
        (upd (chunk row k 4 (lane l)) (idx k 4 l) (upd (chunk row k 3 (lane l)) (idx k 3 l) (upd (chunk row k 2 (lane l)) (idx k 2 l)
          (upd (chunk row k 1 (lane l)) (idx k 1 l) (upd (chunk row k 0 (lane l)) (idx k 0 l) (acc.1 (lane l), acc.2 (lane l))))))))) := rfl

theorem best_upd {g : ℕ → EReal} {num : ℕ → ℕ} {n n' : ℕ} {p : EReal × BitVec 32} {x : EReal} {j : BitVec 32}
    (h : Best g num n p.1 p.2) (hx : x = g n) (hj : j = BitVec.ofNat 32 (num n)) (hn : n' = n + 1) :
    Best g num n' (upd x j p).1 (upd x j p).2 := by
  subst hx hj hn
  by_cases hlt : p.1 < g n
  · simpa [upd, Scalar.select, Ideal.cmpf_def, Ideal.cmp, hlt] using h.take hlt
  · simpa [upd, Scalar.select, Ideal.cmpf_def, Ideal.cmp, hlt] using h.keep (not_lt.mp hlt)

theorem chunk_lane (row : Vec Ideal S16384 .f32) (k u : ℕ) (l : Fin 16) :
    chunk row k u (lane l) = col row (16 * (8 * k + u) + l.val) :=
  congrArg (fun c : ℕ => col row c) (show 128 * k + 16 * u + l.val = 16 * (8 * k + u) + l.val by omega)

theorem trips_eq : k0_t1_loop.trips = 128 := by decide

/-- Before trip `k` lane `l` carries the first maximum of its first `8 k` scores. -/
theorem carry_best (row : Vec Ideal S16384 .f32) (l : Fin 16) (k : ℕ) (hk : k ≤ k0_t1_loop.trips) :
    Best (fun i => col row (16 * i + l.val)) (fun i => 16 * i + l.val) (8 * k) ((carry row k).1 (lane l)) ((carry row k).2 (lane l)) := by
  induction k with
  | zero =>
    have h : (k0_pay13 (F := Ideal)) (lane l) = (⊥ : EReal) := by
      show Ideal.ofBits .f32 0xFF800000#32 = ⊥
      simp [Ideal.ofBits, Ideal.ieee]
    show Best _ _ 0 ((k0_pay13 (F := Ideal)) (lane l)) 0#32
    rw [h]; exact Best.zero
  | succ k ih =>
    have ih := ih (Nat.le_of_succ_le hk)
    have hs := step_lane row ⟨k, hk⟩ (carry row k) l
    have e := carry_succ row ⟨k, hk⟩
    simp only at e
    rw [e]
    have e1 := congrArg Prod.fst hs
    have e2 := congrArg Prod.snd hs
    simp only at e1 e2
    rw [e1, e2]
    have c := fun u => chunk_lane row k u l
    have d := fun u => idx_eq k u l
    refine best_upd (n := 8 * k + 7) (best_upd (n := 8 * k + 6) (best_upd (n := 8 * k + 5) (best_upd (n := 8 * k + 4)
      (best_upd (n := 8 * k + 3) (best_upd (n := 8 * k + 2) (best_upd (n := 8 * k + 1) (best_upd (n := 8 * k) ih
        (c 0) (d 0) rfl) (c 1) (d 1) rfl) (c 2) (d 2) rfl) (c 3) (d 3) rfl) (c 4) (d 4) rfl) (c 5) (d 5) rfl) (c 6) (d 6) rfl)
        (c 7) (d 7) (by omega)

/-! ## What the kernel makes of the sixteen lanes -/

/-- The largest of sixteen, as the kernel takes it: one after the other. -/
def mx (m : Fin 16 → EReal) : EReal :=
  max (max (max (max (max (max (max (max (max (max (max (max (max (max (max (m 0) (m 1)) (m 2)) (m 3)) (m 4)) (m 5)) (m 6)) (m 7))
    (m 8)) (m 9)) (m 10)) (m 11)) (m 12)) (m 13)) (m 14)) (m 15)

theorem le_mx (m : Fin 16 → EReal) (l : Fin 16) : m l ≤ mx m := by
  unfold mx
  fin_cases l <;> simp only [le_max_iff, le_refl, true_or, or_true, Fin.mk_one, Fin.zero_eta, Fin.reduceFinMk]

theorem at_max {m : Fin 16 → EReal} {a : EReal} (h : ∃ l, m l = a) (l' : Fin 16) : ∃ l, m l = max a (m l') := by
  obtain ⟨l, rfl⟩ := h
  rcases max_choice (m l) (m l') with h | h
  · exact ⟨l, h.symm⟩
  · exact ⟨l', h.symm⟩

theorem at_mx (m : Fin 16 → EReal) : ∃ l, m l = mx m := by
  refine at_max (at_max (at_max (at_max (at_max (at_max (at_max (at_max (at_max (at_max (at_max (at_max (at_max (at_max (at_max ⟨0, rfl⟩
    1) 2) 3) 4) 5) 6) 7) 8) 9) 10) 11) 12) 13) 14) 15

/-- Lane `l`'s candidate: its index if it holds the largest maximum, else a number above every index. -/
def cand (c : FVec Ideal S16 .f32 × IVec S16 32) (l : Fin 16) : BitVec 32 :=
  Scalar.select (FloatOps.cmpf (F := Ideal) (φ := .f32) .oeq (c.1 (lane l)) (mx fun l => c.1 (lane l))) (c.2 (lane l)) 2147483647#32

theorem cand_eq (c : FVec Ideal S16 .f32 × IVec S16 32) (l : Fin 16) :
    cand c l = if c.1 (lane l) = mx (fun l => c.1 (lane l)) then c.2 (lane l) else 2147483647#32 := by
  by_cases h : (c.1 (lane l) : EReal) = mx (fun l => c.1 (lane l))
  · simp [cand, Scalar.select, Ideal.cmpf_def, Ideal.cmp, ← h]
  · simp [cand, Scalar.select, Ideal.cmpf_def, Ideal.cmp, h]

theorem slice_lane (v : FVec Ideal S16 .f32) (o : ℕ) (ho : o < 16) (hs : S16.Slices ![o] S1) :
    extractAt ![0] (extractStridedSlice S1 ![o] v hs) inpos_S1_p0 = v (lane ⟨o, ho⟩) :=
  congrArg v (funext fun | 0 => rfl)

theorem finish_eq (c : FVec Ideal S16 .f32 × IVec S16 32) (i : S16.Idx) :
    finish c i = IntOp.xori (scan .min (fun i : S16.Idx => IntOp.xori (cand c (i 0)) 2147483648#32) (lane 15)) 2147483648#32 := by
  have e0 := slice_lane c.1 0 (by decide) slices_S16_o0_S1
  have e1 := slice_lane c.1 1 (by decide) slices_S16_o1_S1
  have e2 := slice_lane c.1 2 (by decide) slices_S16_o2_S1
  have e3 := slice_lane c.1 3 (by decide) slices_S16_o3_S1
  have e4 := slice_lane c.1 4 (by decide) slices_S16_o4_S1
  have e5 := slice_lane c.1 5 (by decide) slices_S16_o5_S1
  have e6 := slice_lane c.1 6 (by decide) slices_S16_o6_S1
  have e7 := slice_lane c.1 7 (by decide) slices_S16_o7_S1
  have e8 := slice_lane c.1 8 (by decide) slices_S16_o8_S1
  have e9 := slice_lane c.1 9 (by decide) slices_S16_o9_S1
  have e10 := slice_lane c.1 10 (by decide) slices_S16_o10_S1
  have e11 := slice_lane c.1 11 (by decide) slices_S16_o11_S1
  have e12 := slice_lane c.1 12 (by decide) slices_S16_o12_S1
  have e13 := slice_lane c.1 13 (by decide) slices_S16_o13_S1
  have e14 := slice_lane c.1 14 (by decide) slices_S16_o14_S1
  have e15 := slice_lane c.1 15 (by decide) slices_S16_o15_S1
  unfold finish k0_pay22 k0_pay23 k0_pay24 k0_pay25 k0_pay26 k0_pay27 k0_pay28 k0_pay29 k0_pay30 k0_pay31 k0_pay32 k0_pay33 k0_pay34
  simp only [e0, e1, e2, e3, e4, e5, e6, e7, e8, e9, e10, e11, e12, e13, e14, e15]
  have hc : ∀ v : IVec S16 32, (∀ l : Fin 16, v (lane l) = cand c l) → v = fun i : S16.Idx => cand c (i 0) := fun v h =>
    funext fun i => by rw [eq_lane i]; exact h _
  unfold k0_pay1
  rw [hc (select _ _ _) fun l => rfl]
  show IntOp.xori (scan .min _ _) _ = _
  exact congrArg (fun j => IntOp.xori (scan .min (fun i : S16.Idx => IntOp.xori (cand c (i 0)) 2147483648#32) j) 2147483648#32)
    (funext fun | 0 => rfl)

theorem toNat_flip (a : BitVec 32) (h : a.toNat < 2147483648) : (IntOp.xori a 2147483648#32).toNat = a.toNat + 2147483648 := by
  show (a ^^^ 2147483648#32).toNat = _
  rw [BitVec.toNat_xor, show (2147483648#32).toNat = 2 ^ 31 from rfl, SortNet.xor_two_pow_top a.toNat a.isLt, if_pos (show a.toNat < 2 ^ 31 from h)]
  norm_num

theorem flip_flip (a : BitVec 32) : IntOp.xori (IntOp.xori a 2147483648#32) 2147483648#32 = a := by
  simp [IntOp.xori, BitVec.xor_assoc]

theorem finish_min (c : FVec Ideal S16 .f32 × IVec S16 32) (i : S16.Idx) (hlt : ∀ l, (cand c l).toNat < 2147483648) :
    ∃ l, finish c i = cand c l ∧ ∀ l', (finish c i).toNat ≤ (cand c l').toNat := by
  obtain ⟨l, -, he, hm⟩ := foldl_minui (fun k : Fin 16 => IntOp.xori (cand c k) 2147483648#32)
    ((List.finRange 16).filter fun k => decide (0 < k.val ∧ k.val ≤ 15)) 0
  have hf : finish c i = cand c l := by
    rw [finish_eq]
    refine Eq.trans (congrArg (fun a => IntOp.xori a 2147483648#32) (Eq.trans ?_ he)) (flip_flip _)
    rfl
  refine ⟨l, hf, fun l' => ?_⟩
  rw [hf]
  have hmem : l' ∈ (0 : Fin 16) :: (List.finRange 16).filter fun k => decide (0 < k.val ∧ k.val ≤ 15) := by
    revert l'; decide
  have := hm l' hmem
  simp only [toNat_flip _ (hlt _)] at this
  omega

/-- The number the kernel stores for a row is that of the first column that holds the row's maximum. -/
theorem answer_best (row : Vec Ideal S16384 .f32) (i : S16.Idx) : ∃ M, Best (col row) id 16384 M (answer row i) := by
  have hb : ∀ l : Fin 16, Best (fun i => col row (16 * i + l.val)) (fun i => 16 * i + l.val) 1024
      ((carry row k0_t1_loop.trips).1 (lane l)) ((carry row k0_t1_loop.trips).2 (lane l)) := fun l => by
    have := carry_best row l k0_t1_loop.trips le_rfl
    have e : 8 * k0_t1_loop.trips = 1024 := by rw [trips_eq]
    rwa [e] at this
  have hlt : ∀ l, (cand (carry row k0_t1_loop.trips) l).toNat < 2147483648 := fun l => by
    rw [cand_eq]
    split
    · rcases (hb l).arg with ⟨-, h⟩ | ⟨-, i, hi, -, h, -⟩
      · rw [h]; decide
      · rw [h, BitVec.toNat_ofNat, Nat.mod_eq_of_lt] <;> have := l.isLt <;> omega
    · decide
  obtain ⟨l, he, hm⟩ := finish_min (carry row k0_t1_loop.trips) i hlt
  refine ⟨mx fun l => (carry row k0_t1_loop.trips).1 (lane l), Best.combine hb (le_mx _) (at_mx _) ⟨l, ?_, fun l' => ?_⟩⟩
  · exact he.trans (cand_eq _ l)
  · have := hm l'
    rwa [cand_eq] at this

end Cert.Proof.ArgmaxIdeal
end
-- ==== Proof.ArgmaxRefMath.lean ====
module

public import proofs.«01_k».proof.Proof.ArgmaxRefRun
public import proofs.«01_k».proof.Proof.FirstMax

/-!
The reference's value over the extended reals: its reduction folds a row's scores from the first column to the last, and the
column number it ends with is that of the first column that holds the row's maximum.
-/

@[expose] public section

noncomputable section

namespace Cert.Proof.ArgmaxRef

open Cert.ArgmaxRefIdeal Cert.ArgmaxRefIdeal.Gen Cert.Proof.FirstMax Idealize.ShloMosaic

/-- The index of row `r`, column `c`. -/
def at2 (r : Fin 16) (c : Fin 16384) : S16x16384.Idx := fun | 0 => r | 1 => c

/-- Column `c` of row `r`, columns past the last being read around. -/
def col (x : FVec Ideal S16x16384 .f32) (r : Fin 16) (c : ℕ) : EReal := x (at2 r ⟨c % 16384, Nat.mod_lt _ (by decide)⟩)

/-- Row `r`'s columns among the positions of the whole array, in order. -/
def pos (r : Fin 16) (c : Fin 16384) : Fin S16x16384.numel := S16x16384.rowMajor (at2 r c)

theorem pos_val (r : Fin 16) (c : Fin 16384) : (pos r c).val = r.val * 16384 + c.val :=
  Shape.rowMajor_val_two _

theorem pos_mono (r : Fin 16) : StrictMono (pos r) := fun a b h => by
  show (pos r a).val < (pos r b).val
  rw [pos_val, pos_val]
  have : a.val < b.val := h
  omega

theorem drop_iff (r : Fin 16) (i : S16x16384.Idx) :
    reducesTo_S16x16384_S16_d1.drop i = (fun | 0 => r : S16.Idx) ↔ i 0 = r := by
  have h := Shape.ReducesTo.drop_apply_val_of_eq reducesTo_S16x16384_S16_d1 i 0 0
  constructor
  · intro e
    have := congrFun e 0
    exact Fin.ext (h.symm.trans (congrArg Fin.val this))
  · intro e
    funext a
    match a with
    | 0 => exact Fin.ext (h.trans (congrArg Fin.val e))

/-- The pairs that row `r`'s reduction folds, in order. -/
theorem fiber_eq (x : FVec Ideal S16x16384 .f32) (r : Fin 16) :
    Host.argReduceFiber x (iotaInDim S16x16384 32 1) reducesTo_S16x16384_S16_d1 (fun | 0 => r)
      = (List.finRange 16384).map fun c => (x (at2 r c), BitVec.ofNat 32 c.val) := by
  unfold Host.argReduceFiber
  rw [filter_finRange_eq_map _ (pos r) (pos_mono r) fun n => ?_, List.map_map]
  · refine List.map_congr_left fun c _ => ?_
    simp only [Function.comp, pos, Equiv.symm_apply_apply]
    rfl
  · rw [drop_iff]
    constructor
    · intro e
      refine ⟨(S16x16384.rowMajor.symm n) 1, ?_⟩
      refine (Equiv.eq_symm_apply _).mp ?_
      funext a
      match a with
      | 0 => exact e.symm
      | 1 => rfl
    · rintro ⟨c, rfl⟩
      simp only [pos, Equiv.symm_apply_apply]
      rfl

/-- One step of the fold. -/
theorem reducer_best {g : ℕ → EReal} {n : ℕ} (hn : n < 16384) {p : EReal × BitVec 32} (h : Best g id n p.1 p.2) :
    Best g id (n + 1) (reducer_argmax_f32_i32 (F := Ideal) p (g n, BitVec.ofNat 32 n)).1
      (reducer_argmax_f32_i32 (F := Ideal) p (g n, BitVec.ofNat 32 n)).2 := by
  obtain ⟨M, J⟩ := p
  simp only at h
  rcases lt_trichotomy M (g n) with hlt | heq | hgt
  · have e : reducer_argmax_f32_i32 (F := Ideal) (M, J) (g n, BitVec.ofNat 32 n) = (g n, BitVec.ofNat 32 n) := by
      simp [reducer_argmax_f32_i32, Scalar.select, Ideal.cmpf_def, Ideal.cmp, IntOp.ori, IntOp.andi, hlt.not_gt, hlt.ne]
    rw [e]; exact h.take hlt
  · have e : reducer_argmax_f32_i32 (F := Ideal) (M, J) (g n, BitVec.ofNat 32 n) = (M, J) := by
      have hJ : J = BitVec.ofNat 32 n ∨ J.slt (BitVec.ofNat 32 n) = true := by
        have key : ∀ i, i ≤ n → BitVec.ofNat 32 i = BitVec.ofNat 32 n ∨ (BitVec.ofNat 32 i).slt (BitVec.ofNat 32 n) = true := fun i hi => by
          rcases hi.lt_or_eq with hi | rfl
          · right
            have t : ∀ k, k < 16384 → (BitVec.ofNat 32 k).toInt = (k : ℤ) := fun k hk => by
              rw [BitVec.toInt_eq_toNat_of_lt] <;> rw [BitVec.toNat_ofNat, Nat.mod_eq_of_lt] <;> omega
            rw [BitVec.slt, t i (by omega), t n hn]
            exact decide_eq_true (by exact_mod_cast hi)
          · exact .inl rfl
        rcases h.arg with ⟨-, hJ⟩ | ⟨-, i, hi, -, hJ, -⟩
        · rw [hJ]; exact key 0 (Nat.zero_le _)
        · rw [hJ]; exact key i hi.le
      rcases hJ with hJ | hJ
      · simp [reducer_argmax_f32_i32, Scalar.select, Ideal.cmpf_def, Ideal.cmp, IntOp.ori, IntOp.andi, ← heq, ← hJ]
      · simp [reducer_argmax_f32_i32, Scalar.select, Ideal.cmpf_def, Ideal.cmp, IntOp.ori, IntOp.andi, IntOp.cmpi, ← heq, hJ]
    rw [e]; exact h.keep heq.ge
  · have e : reducer_argmax_f32_i32 (F := Ideal) (M, J) (g n, BitVec.ofNat 32 n) = (M, J) := by
      simp [reducer_argmax_f32_i32, Scalar.select, Ideal.cmpf_def, Ideal.cmp, IntOp.ori, IntOp.andi, hgt, hgt.ne']
    rw [e]; exact h.keep hgt.le

/-- `foldl_finRange` with its arguments read off the goal. -/
theorem foldl_fin {α : Type} {N : ℕ} {f : α → Fin N → α} (Q : ℕ → α → Prop) {a : α} (h0 : Q 0 a)
    (hs : ∀ (i : Fin N) (b : α), Q i.val b → Q (i.val + 1) (f b i)) : Q N ((List.finRange N).foldl f a) :=
  foldl_finRange N f Q a h0 hs

/-- Row `r`'s reduction ends with the row's maximum and the number of the first column that holds it. -/
theorem reduced_best (x : FVec Ideal S16x16384 .f32) (r : Fin 16) :
    Best (col x r) id 16384 (reduced x (fun | 0 => r)).1 (reduced x (fun | 0 => r)).2 := by
  unfold reduced
  rw [Ideal.argReduce_eq_reduce2, Host.reduce2_eq_foldl_fiber, fiber_eq, List.foldl_map]
  refine foldl_fin (fun n (p : EReal × BitVec 32) => Best (col x r) id n p.1 p.2) ?_ fun i b hb => ?_
  · have h0 : (constant (F := Ideal) S_ .f32 0xFF800000#32) (Shape.Idx.first h_S_) = (⊥ : EReal) := by
      show Ideal.ofBits .f32 0xFF800000#32 = ⊥
      simp [Ideal.ofBits, Ideal.ieee]
    simp only [h0]
    exact Best.zero
  · have hc : col x r i.val = x (at2 r i) := by
      unfold col; congr 2; exact Fin.ext (Nat.mod_eq_of_lt i.isLt)
    have := reducer_best i.isLt hb
    rwa [hc] at this

/-- Every lane of row `r` of the result is that column's number. -/
theorem result_eq (x : FVec Ideal S16x16384 .f32) (j : S16x16.Idx) : result x j = (reduced x (fun | 0 => j 0)).2 :=
  congrArg (fun i => (reduced x i).2) (funext fun | 0 => rfl)

end Cert.Proof.ArgmaxRef

end
-- ==== Proof.ArgmaxMath.lean ====
module

public import proofs.«01_k».proof.Proof.ArgmaxIdealMath
public import proofs.«01_k».proof.Proof.ArgmaxRefMath

/-!
The SparseCore call and its reference compute the same numbers over the extended reals: each is the number of the first column
that holds its row's maximum, and that number is unique.
-/

@[expose] public section

namespace Cert.Proof.Argmax

open Idealize.ShloMosaic

/-- The kernel's whole result is the reference's, at any scores. -/
theorem answers_eq_result (x : Cert.ArgmaxIdeal.S16x16384.Idx → Ideal .f32) :
    Cert.Proof.ArgmaxIdeal.answers x = Cert.Proof.ArgmaxRef.result x := by
  funext j
  have hc : Cert.Proof.ArgmaxIdeal.col (Cert.Proof.ArgmaxIdeal.rowOf x (j 0)) = Cert.Proof.ArgmaxRef.col x (j 0) :=
    funext fun c => congrArg x (funext fun a => match a with | 0 => rfl | 1 => rfl)
  obtain ⟨M, h⟩ := Cert.Proof.ArgmaxIdeal.answer_best (Cert.Proof.ArgmaxIdeal.rowOf x (j 0)) (fun | 0 => j 1)
  rw [hc] at h
  exact (h.unique (Cert.Proof.ArgmaxRef.reduced_best x (j 0))).trans (Cert.Proof.ArgmaxRef.result_eq x j).symm

end Cert.Proof.Argmax
end
-- ==== Proof.PolicyIdealBlock.lean ====
module

public import proofs.«01_k».proof.Proof.Gen.PolicyIdeal.Value
public import Idealize.ShloMosaic.Lib.Pointwise

/-!
What one grid point of the TensorCore call leaves in its two output blocks, element by element, over the extended reals: the
probability of the second class from the two logits of that row and position, and that probability plus the noise.
-/

@[expose] public section

noncomputable section

namespace Cert.Proof.PolicyIdeal

open Cert.PolicyIdeal Cert.PolicyIdeal.Gen Idealize.ShloMosaic Idealize.ShloMosaic.TcCoe Idealize.SL.Sem

/-- The probability of the second of two classes with logits `a` and `b`, in the form whose exponent is never positive: the
larger logit is taken off first. -/
def prob (a b : EReal) : EReal :=
  if a ≤ b then Ideal.div 1 (Ideal.exp (a - b) + 1) else Ideal.div (Ideal.exp (b - a)) (1 + Ideal.exp (b - a))

/-- One logit of a block: the row of weights `k` against the state vector of `(i, t)`, plus the bias of class `k`. -/
def blockLogit (x0 : Vec Ideal S16x1024x128 .f32) (x1 x2 : Vec Ideal S8x128 .f32) (k : Fin 8) (k' : Fin 128) (y : S16x1024.Idx) : EReal :=
  (∑ d : Fin 128, x1 (ix2 k d) * x0 (ix3 (y 0) (y 1) d)) + x2 (ix2 0 k')

section Layout
variable {F : FTy → Type} [FloatOps F]

/-- The first output block, element by element: the sixteen stored rows are the rows of the computed probabilities. -/
theorem out4_apply (x0 : Vec F S16x1024x128 .f32) (x1 x2 : Vec F S8x128 .f32) (x3 : Vec F S16x1024 .f32) (y : S16x1024.Idx) :
    out0_4 x0 x1 x2 x3 y = Value.E4 (View.ld x0 r0_0) (View.ld x1 r0_1) (View.ld x2 r0_2) (View.ld x2 r0_3) y := by
  unfold out0_4 k0_pay35 k0_pay34
  exact Value.canon4_eq _ _ _ _ y

set_option maxHeartbeats 1000000 in
/-- The second output block is the first plus the noise block, element by element: each of the sixteen stored rows is. -/
theorem out5_apply (x0 : Vec F S16x1024x128 .f32) (x1 x2 : Vec F S8x128 .f32) (X : Vec F S16x1024 .f32) (y : S16x1024.Idx) :
    out0_5 x0 x1 x2 X y = FloatOps.addf (Value.E4 (View.ld x0 r0_0) (View.ld x1 r0_1) (View.ld x2 r0_2) (View.ld x2 r0_3) y) (X y) := by
  unfold out0_5 k0_pay35 k0_pay34
  generalize View.ld x0 r0_0 = P0
  generalize View.ld x1 r0_1 = P1
  generalize View.ld x2 r0_2 = P2
  generalize View.ld x2 r0_3 = P3
  refine View.canon_apply_of_pieces (fun y => FloatOps.addf (Value.E4 P0 P1 P2 P3 y) (X y)) _ ?_ y (cover0_5 _ _ _ _ _ _ _ _ _ _ _ _ _ _ _ _ y)
  simp only [List.forall_mem_cons, List.not_mem_nil, false_implies, implies_true, and_true]
  have row {r : Rect S16x1024} {p : r.shape.Idx → F .f32} {q : F .f32} (x : r.shape.Idx) (h : p x = q) :
      FloatOps.addf (p x) (View.ld X r x) = FloatOps.addf q (X (r.idx x)) := by rw [h]
  exact ⟨fun x => row (r := r0_19) x (Value.piece4_15 P0 P1 P2 P3 x), fun x => row (r := r0_18) x (Value.piece4_14 P0 P1 P2 P3 x),
    fun x => row (r := r0_17) x (Value.piece4_13 P0 P1 P2 P3 x), fun x => row (r := r0_16) x (Value.piece4_12 P0 P1 P2 P3 x),
    fun x => row (r := r0_15) x (Value.piece4_11 P0 P1 P2 P3 x), fun x => row (r := r0_14) x (Value.piece4_10 P0 P1 P2 P3 x),
    fun x => row (r := r0_13) x (Value.piece4_9 P0 P1 P2 P3 x), fun x => row (r := r0_12) x (Value.piece4_8 P0 P1 P2 P3 x),
    fun x => row (r := r0_11) x (Value.piece4_7 P0 P1 P2 P3 x), fun x => row (r := r0_10) x (Value.piece4_6 P0 P1 P2 P3 x),
    fun x => row (r := r0_9) x (Value.piece4_5 P0 P1 P2 P3 x), fun x => row (r := r0_8) x (Value.piece4_4 P0 P1 P2 P3 x),
    fun x => row (r := r0_7) x (Value.piece4_3 P0 P1 P2 P3 x), fun x => row (r := r0_6) x (Value.piece4_2 P0 P1 P2 P3 x),
    fun x => row (r := r0_5) x (Value.piece4_1 P0 P1 P2 P3 x), fun x => row (r := r0_4) x (Value.piece4_0 P0 P1 P2 P3 x)⟩

end Layout

/-- The probabilities that one grid point computes, read at a column of the flattened block. -/
theorem pay_flat (P0 : Vec Ideal S16x1024x128 .f32) (P1 : Vec Ideal S8x128 .f32) (P2 P3 : Vec Ideal S1x1 .f32) (p : Fin 16384) :
    k0_pay2 (F := Ideal) P0 P1 P2 P3 (ix2 (0 : Fin 1) p)
      = prob ((∑ d : Fin 128, P1 (ix2 0 d) * P0 (ix3 ⟨p.val / 1024, by omega⟩ ⟨p.val % 1024, by omega⟩ d)) + P2 (ix2 0 0))
          ((∑ d : Fin 128, P1 (ix2 1 d) * P0 (ix3 ⟨p.val / 1024, by omega⟩ ⟨p.val % 1024, by omega⟩ d)) + P3 (ix2 0 0)) := by
  pointwise [k0_pay2]
  unfold prob
  split <;> rfl

/-- The probabilities that one grid point computes, read at a row and a position. -/
theorem pay_apply (P0 : Vec Ideal S16x1024x128 .f32) (P1 : Vec Ideal S8x128 .f32) (P2 P3 : Vec Ideal S1x1 .f32) (y : S16x1024.Idx) :
    Value.E4 (F := Ideal) P0 P1 P2 P3 y
      = prob ((∑ d : Fin 128, P1 (ix2 0 d) * P0 (ix3 (y 0) (y 1) d)) + P2 (ix2 0 0)) ((∑ d : Fin 128, P1 (ix2 1 d) * P0 (ix3 (y 0) (y 1) d)) + P3 (ix2 0 0)) := by
  have h0 : (y 0).val < 16 := (y 0).isLt
  have h1 : (y 1).val < 1024 := (y 1).isLt
  have e : Value.ix4_0 y = ix2 (0 : Fin 1) ⟨(y 0).val * 1024 + (y 1).val, by omega⟩ :=
    funext fun a => by match a with | ⟨0, _⟩ => rfl | ⟨1, _⟩ => rfl
  have e0 : (⟨((y 0).val * 1024 + (y 1).val) / 1024, by omega⟩ : Fin 16) = y 0 := Fin.ext (by show _ / 1024 = (y 0).val; omega)
  have e1 : (⟨((y 0).val * 1024 + (y 1).val) % 1024, by omega⟩ : Fin 1024) = y 1 := Fin.ext (by show _ % 1024 = (y 1).val; omega)
  show k0_pay2 (F := Ideal) P0 P1 P2 P3 (Value.ix4_0 y) = _
  rw [e, pay_flat, e0, e1]

/-- The two output blocks, element by element, from the logits of the block: the probability, and the probability plus the noise. -/
theorem out_eq (x0 : Vec Ideal S16x1024x128 .f32) (x1 x2 : Vec Ideal S8x128 .f32) (x3 : Vec Ideal S16x1024 .f32) (y : S16x1024.Idx) :
    out0_4 (F := Ideal) x0 x1 x2 x3 y = prob (blockLogit x0 x1 x2 0 0 y) (blockLogit x0 x1 x2 1 1 y)
      ∧ out0_5 (F := Ideal) x0 x1 x2 x3 y = prob (blockLogit x0 x1 x2 0 0 y) (blockLogit x0 x1 x2 1 1 y) + x3 y := by
  have e0 : View.ld x0 r0_0 = x0 := View.ld_unit_zero (by funext a; fin_cases a <;> rfl) _ _
  have e1 : View.ld x1 r0_1 = x1 := View.ld_unit_zero (by funext a; fin_cases a <;> rfl) _ _
  have e2 : View.ld x2 r0_2 (ix2 0 0) = x2 (ix2 0 0) := congrArg x2 (by funext a; fin_cases a <;> rfl)
  have e3 : View.ld x2 r0_3 (ix2 0 0) = x2 (ix2 0 1) := congrArg x2 (by funext a; fin_cases a <;> rfl)
  rw [out4_apply, out5_apply, pay_apply, e0, e1, e2, e3]
  exact ⟨rfl, rfl⟩

end Cert.Proof.PolicyIdeal

end
-- ==== Proof.PolicyIdealHost.lean ====
module

public import proofs.«01_k».proof.Proof.Gen.PolicyIdeal.Frame
public import Idealize.ShloMosaic.Lib.Routing.OpsSet
public import Idealize.ShloMosaic.Lib.Pointwise

/-!
What the host code of the TensorCore call puts into its two padded operands: the weights, transposed, in the first two rows of
an array of zeros, and the two biases at the head of another's first row.
-/

@[expose] public section

noncomputable section

namespace Cert.Proof.PolicyIdeal

open Cert.PolicyIdeal Cert.PolicyIdeal.Gen Idealize.ShloMosaic Idealize.ShloMosaic.TcCoe Idealize.SL.Sem

variable {F : FTy → Type} [FloatOps F]

/-- An update that starts at zero on every axis lands at its window coordinates, when these lie in the array. -/
theorem lands_at_window {s si u : Shape} {w : Nat} (d : ScatterDims s si u) (j : u.Idx) (idx : IVec si w) (i : s.Idx)
    (h0 : ∀ a, d.start j idx a = 0) (hw : ∀ a, d.window j a = (i a).val) : d.resultIdx? j idx = some i := by
  have h : ∀ a, 0 ≤ d.start j idx a + d.window j a ∧ d.start j idx a + d.window j a < s.size a := fun a => by
    have := (i a).isLt
    rw [h0, hw]; omega
  unfold ScatterDims.resultIdx?
  rw [dif_pos h]
  refine congrArg some (funext fun a => Fin.ext ?_)
  show (d.start j idx a + d.window j a).toNat = _
  rw [h0, hw]; omega

/-- Index words that are all zero make every start zero. -/
theorem start_zero {s si u : Shape} {w : Nat} (d : ScatterDims s si u) (j : u.Idx) (idx : IVec si w) (h : ∀ k, idx k = 0#w) (b : Fin s.rank) :
    d.start j idx b = 0 := by
  unfold ScatterDims.start
  split
  · rw [h]; simp
  · rfl

/-- The two rows written into the padded weights: row `k` holds the updates' row `k`. -/
theorem scatter_rows {α : Type} (x0 : S8x128.Idx → α) (idx : IVec S1 32) (h : ∀ k, idx k = 0#32) (upd : S2x128.Idx → α) (k : Fin 2) (d : Fin 128) :
    Host.scatter scatter_S8x128_S1_S2x128_01_n_0_0 (fun _ b => b) x0 idx upd (ix2 ⟨k.val, by omega⟩ d) = upd (ix2 k d) := by
  have lands (j : S2x128.Idx) : scatter_S8x128_S1_S2x128_01_n_0_0.resultIdx? j idx = some (ix2 ⟨(j 0).val, by have : (j 0).val < 2 := (j 0).isLt; omega⟩ (j 1)) :=
    lands_at_window _ j idx _ (start_zero _ j idx h) fun a => by match a with | ⟨0, _⟩ => rfl | ⟨1, _⟩ => rfl
  refine Routing.scatter_set_hit _ x0 idx upd _ _ (fun j hj => ?_) (ix2 k d) (lands _)
  rw [lands] at hj
  have e := Option.some.inj hj
  refine congrArg upd (funext fun a => Fin.ext ?_)
  match a with
  | ⟨0, _⟩ => exact congrArg (fun i : S8x128.Idx => (i 0).val) e
  | ⟨1, _⟩ => exact congrArg (fun i : S8x128.Idx => (i 1).val) e

/-- The two words written into the padded biases: column `k` of row 0 holds update `k`. -/
theorem scatter_head {α : Type} (x0 : S8x128.Idx → α) (idx : IVec S2 32) (h : ∀ k, idx k = 0#32) (upd : S2.Idx → α) (k : Fin 2) :
    Host.scatter scatter_S8x128_S2_S2_0_0_01_0 (fun _ b => b) x0 idx upd (ix2 (0 : Fin 8) ⟨k.val, by omega⟩) = upd (ix1 k) := by
  have lands (j : S2.Idx) : scatter_S8x128_S2_S2_0_0_01_0.resultIdx? j idx = some (ix2 (0 : Fin 8) ⟨(j 0).val, by have : (j 0).val < 2 := (j 0).isLt; omega⟩) :=
    lands_at_window _ j idx _ (start_zero _ j idx h) fun a => by match a with | ⟨0, _⟩ => rfl | ⟨1, _⟩ => rfl
  refine Routing.scatter_set_hit _ x0 idx upd _ _ (fun j hj => ?_) (ix1 k) (lands _)
  rw [lands] at hj
  have e := Option.some.inj hj
  refine congrArg upd (funext fun a => Fin.ext ?_)
  match a with
  | ⟨0, _⟩ => exact congrArg (fun i : S8x128.Idx => (i 1).val) e

variable (m : (ℓ : Loc nD τ sig) → Buf (Elt F) ℓ) (c : Dev nD)

/-- The padded weights that the call reads. -/
theorem V_weights : V m c main_v3 = Host.scatter scatter_S8x128_S1_S2x128_01_n_0_0 (fun _ b => b)
    (broadcastInDim S8x128 ![] bcast_S_S8x128 (constant S_ .f32 0x00000000#32)) (broadcastInDim S1 ![] bcast_S_S1 (constantI S_ 32 0#32))
    (transpose S2x128 [1, 0] (m ((c : Thread nD τ).loc main_arg1)) transposes_S128x2_S2x128_1_0) := by
  unfold V hostOps0
  after_results <;> rfl

/-- The padded biases that the call reads. -/
theorem V_biases : V m c main_v8 = Host.scatter scatter_S8x128_S2_S2_0_0_01_0 (fun _ b => b)
    (broadcastInDim S8x128 ![] bcast_S_S8x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (m ((c : Thread nD τ).loc main_arg2)) := by
  unfold V hostOps0
  after_results <;> rfl

/-- Row `k` of the padded weights is column `k` of the weights. -/
theorem weights_apply (k : Fin 2) (d : Fin 128) :
    V m c main_v3 (ix2 (⟨k.val, by omega⟩ : Fin 8) d) = m ((c : Thread nD τ).loc main_arg1) (ix2 d k) := by
  rw [V_weights]
  refine (scatter_rows _ _ (fun _ => rfl) _ k d).trans ?_
  pointwise

/-- Column `k` of the padded biases' row 0 is bias `k`. -/
theorem biases_apply (k : Fin 2) :
    V m c main_v8 (ix2 (0 : Fin 8) (⟨k.val, by omega⟩ : Fin 128)) = m ((c : Thread nD τ).loc main_arg2) (ix1 k) := by
  rw [V_biases]
  refine scatter_head _ _ (fun j => ?_) _ k
  pointwise
  exact ite_self _

end Cert.Proof.PolicyIdeal

end
-- ==== Proof.PolicyIdealArray.lean ====
module

public import proofs.«01_k».proof.Proof.PolicyIdealBlock
public import proofs.«01_k».proof.Proof.PolicyIdealHost
public import Idealize.ShloMosaic.Lib.Pipeline.ValueKit

/-!
The two result arrays of the TensorCore call after the run, element by element, from the four arguments: each element is the
probability computed from the two logits of that row and position, and the second array adds the noise.
-/

@[expose] public section

noncomputable section

namespace Cert.Proof.PolicyIdeal

open Cert.PolicyIdeal Cert.PolicyIdeal.Gen Idealize.ShloMosaic Idealize.ShloMosaic.TcCoe Idealize.SL.Sem
open Idealize.ShloMosaic.Pipeline (Dat)

/-- The logit of class `k` at row `i`, position `t`: the state vector there against column `k` of the weights, plus bias `k`. -/
def logit (s : FVec Ideal S16x16384x128 .f32) (w : FVec Ideal S128x2 .f32) (b : FVec Ideal S2 .f32) (k : Fin 2) (i : Fin 16) (t : Fin 16384) : EReal :=
  (∑ d : Fin 128, w (ix2 d k) * s (ix3 i t d)) + b (ix1 k)

/-- The array of probabilities. -/
def probs (s : FVec Ideal S16x16384x128 .f32) (w : FVec Ideal S128x2 .f32) (b : FVec Ideal S2 .f32) : FVec Ideal S16x16384 .f32 :=
  fun j => prob (logit s w b 0 (j 0) (j 1)) (logit s w b 1 (j 0) (j 1))

variable (m : (ℓ : Loc nD τ sig) → Buf (Elt Ideal) ℓ) (c : Dev nD)

theorem idx0 : ∀ t : Fin cfg0.N, win0_0.index t = ![0, t.val, 0] := (by decide +kernel : ∀ t : Fin grid0.N, win0_0.index t = ![0, t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, t.val] := (by decide +kernel : ∀ t : Fin grid0.N, win0_3.index t = ![0, t.val])
theorem idx4 : ∀ t : Fin cfg0.N, win0_4.index t = ![0, t.val] := (by decide +kernel : ∀ t : Fin grid0.N, win0_4.index t = ![0, t.val])
theorem idx5 : ∀ t : Fin cfg0.N, win0_5.index t = ![0, t.val] := (by decide +kernel : ∀ t : Fin grid0.N, win0_5.index t = ![0, t.val])

/-- Column `j` of block `t` in the whole array. -/
def colOf (t : Fin cfg0.N) (j : Fin 1024) : Fin 16384 := ⟨t.val * 1024 + j.val, by have : t.val < 16 := t.isLt; omega⟩

theorem emb4 (t : Fin cfg0.N) (y : S16x1024.Idx) : ((win0_4.blk t).view.emb y : S16x16384.Idx) = ix2 (y 0) (colOf t (y 1)) := by
  blk_ext [idx4 t, colOf]

theorem emb5 (t : Fin cfg0.N) (y : S16x1024.Idx) : ((win0_5.blk t).view.emb y : S16x16384.Idx) = ix2 (y 0) (colOf t (y 1)) := by
  blk_ext [idx5 t, colOf]

/-- The state block of grid point `t`. -/
theorem states_block (t : Fin cfg0.N) (i : Fin 16) (j : Fin 1024) (d : Fin 128) :
    (iblk m c 0 t : S16x1024x128.Idx → EReal) (ix3 i j d) = m ((c : Thread nD τ).loc main_arg0) (ix3 i (colOf t j) d) := by
  blk_simp [iblk]
  rw [V_main_arg0]
  refine congrArg _ ?_
  blk_ext [idx0 t, colOf]

/-- The noise block of grid point `t`. -/
theorem noise_block (t : Fin cfg0.N) (y : S16x1024.Idx) :
    (iblk m c 3 t : S16x1024.Idx → EReal) y = m ((c : Thread nD τ).loc main_arg3) (ix2 (y 0) (colOf t (y 1))) := by
  blk_simp [iblk]
  rw [V_main_arg3]
  refine congrArg _ ?_
  blk_ext [idx3 t, colOf]

/-- The weights' block is the whole padded array. -/
theorem weights_block (t : Fin cfg0.N) (y : S8x128.Idx) : (iblk m c 1 t : S8x128.Idx → EReal) y = V m c main_v3 y := by
  blk_simp [iblk]
  refine congrArg _ ?_
  blk_ext [idx1 t]

/-- The biases' block is the whole padded array. -/
theorem biases_block (t : Fin cfg0.N) (y : S8x128.Idx) : (iblk m c 2 t : S8x128.Idx → EReal) y = V m c main_v8 y := by
  blk_simp [iblk]
  refine congrArg _ ?_
  blk_ext [idx2 t]

/-- A logit of block `t` is the logit of the arguments at that block's row and column. -/
theorem blockLogit_eq (t : Fin cfg0.N) (k : Fin 2) (y : S16x1024.Idx) :
    blockLogit (iblk m c 0 t) (iblk m c 1 t) (iblk m c 2 t) ⟨k.val, by omega⟩ ⟨k.val, by omega⟩ y
      = logit (m ((c : Thread nD τ).loc main_arg0)) (m ((c : Thread nD τ).loc main_arg1)) (m ((c : Thread nD τ).loc main_arg2)) k (y 0) (colOf t (y 1)) := by
  unfold blockLogit logit
  refine congrArg₂ (· + ·) (Finset.sum_congr rfl fun d _ => congrArg₂ (· * ·) ?_ (states_block m c t _ _ d)) ?_
  · exact (weights_block m c t _).trans (weights_apply m c k d)
  · exact (biases_block m c t _).trans (biases_apply m c k)

/-- The first result array after the run: the probabilities. -/
theorem final4 : (dats m 0 c).arrAt 4 cfg0.N
    = probs (m ((c : Thread nD τ).loc main_arg0)) (m ((c : Thread nD τ).loc main_arg1)) (m ((c : Thread nD τ).loc main_arg2)) := by
  refine Dat.arrAt_eq_of_covers (dats m 0 c) 4 _ (by decide +kernel) fun t hf y => ?_
  blk_simp
  rw [after0_4, (out_eq _ _ _ _ _).1]
  erw [emb4]
  exact congrArg₂ prob (blockLogit_eq m c t 0 y) (blockLogit_eq m c t 1 y)

/-- The second result array after the run: the probabilities plus the noise. -/
theorem final5 : (dats m 0 c).arrAt 5 cfg0.N
    = addf (probs (m ((c : Thread nD τ).loc main_arg0)) (m ((c : Thread nD τ).loc main_arg1)) (m ((c : Thread nD τ).loc main_arg2)))
        (m ((c : Thread nD τ).loc main_arg3)) := by
  refine Dat.arrAt_eq_of_covers (dats m 0 c) 5 _ (by decide +kernel) fun t hf y => ?_
  blk_simp
  rw [after0_5, (out_eq _ _ _ _ _).2]
  erw [emb5]
  exact congrArg₂ (· + ·) (congrArg₂ prob (blockLogit_eq m c t 0 y) (blockLogit_eq m c t 1 y)) (noise_block m c t y)

end Cert.Proof.PolicyIdeal

end
-- ==== Proof.PolicyRefMath.lean ====
module

public import proofs.«01_k».proof.Proof.Gen.PolicyRefIdeal.Run
public import Idealize.ShloMosaic.Lib.Pointwise

/-!
The value of the reference for the two probability arrays over the extended reals, element by element: the exponential of the
second logit, the larger logit taken off, over the sum of the two exponentials.
-/

@[expose] public section

noncomputable section

namespace Cert.Proof.PolicyRef

open Cert.PolicyRefIdeal Cert.PolicyRefIdeal.Gen Idealize.ShloMosaic Idealize.ShloMosaic.TcCoe Idealize.SL.Sem

/-- The reference's logits. -/
def logits (s : FVec Ideal S16x16384x128 .f32) (w : FVec Ideal S128x2 .f32) (b : FVec Ideal S2 .f32) : FVec Ideal S16x16384x2 .f32 :=
  addf (Host.dotGeneral dot_S16x16384x128_S128x2_S16x16384x2_2_0_01_1_n_n none s w)
    (broadcastInDim S16x16384x2 ![0, 1, 2] bcast_S1x1x2_S16x16384x2_0_1_2 (broadcastInDim S1x1x2 ![2] bcast_S2_S1x1x2_2 b))

/-- The exponentials of the logits, the larger one of the two taken off first. -/
def exps (l : FVec Ideal S16x16384x2 .f32) : FVec Ideal S16x16384x2 .f32 :=
  Host.exp (subf l (broadcastInDim S16x16384x2 ![0, 1, 2] bcast_S16x16384x1_S16x16384x2_0_1_2
    (broadcastInDim S16x16384x1 ![0, 1] bcast_S16x16384_S16x16384x1_0_1
      (maximumf (broadcastInDim S16x16384 ![] bcast_S_S16x16384 (constant S_ .f32 0xFF800000#32))
        (Host.reduce FloatOps.maximumf l (constant S_ .f32 0xFF800000#32) reducesTo_S16x16384x2_S16x16384_d2 h_S_)))))

/-- The second class's share of the exponentials. -/
def second (e : FVec Ideal S16x16384x2 .f32) : FVec Ideal S16x16384 .f32 :=
  shapeCast _ (extractStridedSlice S16x16384x1 ![0, 0, 1]
    (Host.divf e (broadcastInDim S16x16384x2 ![0, 1, 2] bcast_S16x16384x1_S16x16384x2_0_1_2
      (broadcastInDim S16x16384x1 ![0, 1] bcast_S16x16384_S16x16384x1_0_1
        (Host.reduceAdd e (constant S_ .f32 0x00000000#32) reducesTo_S16x16384x2_S16x16384_d2 h_S_))))
    slices_S16x16384x2_S16x16384x1_0_0_1) shapeCasts_S16x16384x1_S16x16384

/-- The reference's first result. -/
def probs (s : FVec Ideal S16x16384x128 .f32) (w : FVec Ideal S128x2 .f32) (b : FVec Ideal S2 .f32) : FVec Ideal S16x16384 .f32 :=
  second (exps (logits s w b))

theorem logits_apply (s : FVec Ideal S16x16384x128 .f32) (w : FVec Ideal S128x2 .f32) (b : FVec Ideal S2 .f32) (i : Fin 16) (t : Fin 16384) (k : Fin 2) :
    logits s w b (ix3 i t k) = (∑ d : Fin 128, s (ix3 i t d) * w (ix2 d k)) + b (ix1 k) := by
  pointwise [logits]

theorem exps_apply (l : FVec Ideal S16x16384x2 .f32) (i : Fin 16) (t : Fin 16384) (k : Fin 2) :
    exps l (ix3 i t k) = Ideal.exp (l (ix3 i t k) - max (l (ix3 i t 0)) (l (ix3 i t 1))) := by
  pointwise [exps]
  have e : Ideal.ofBits .f32 0xFF800000#32 = ⊥ := by simp [Ideal.ofBits, Ideal.ieee]
  rw [e, max_eq_right bot_le]
  have f (g : Fin 2 → EReal) : Finset.fold max ⊥ g Finset.univ = max (g 0) (g 1) := by
    show max (g 0) (max (g 1) ⊥) = _
    rw [max_eq_left bot_le]
  exact congrArg (fun M => Ideal.exp (l (ix3 i t k) - M)) (f fun x => l (ix3 i t x))

theorem second_apply (e : FVec Ideal S16x16384x2 .f32) (i : Fin 16) (t : Fin 16384) :
    second e (ix2 i t) = Ideal.div (e (ix3 i t 1)) (e (ix3 i t 0) + e (ix3 i t 1)) := by
  pointwise [second]
  rw [Fin.sum_univ_two]

/-- The run of the reference's program: the two results from the four arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = probs (m ((c.tc : Thread nD τ).loc main_arg0)) (m ((c.tc : Thread nD τ).loc main_arg1)) (m ((c.tc : Thread nD τ).loc main_arg2))
      ∧ r.2.mem ((c.tc : Thread nD τ).loc main_v17) = addf (probs (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.PolicyRefIdeal.Value.run (F := Ideal) m ρ

end Cert.Proof.PolicyRef

end
-- ==== Proof.PolicyMath.lean ====
module

public import proofs.«01_k».proof.Proof.PolicyIdealArray
public import proofs.«01_k».proof.Proof.PolicyRefMath
public import proofs.«01_k».proof.Proof.Gen.Pre_finite
public import Idealize.ShloMosaic.Lib.ReduceAll

/-!
The kernel's probabilities are the reference's when the states, the weights and the biases are finite: the logits are then real
numbers, and taking the larger logit off both leaves each quotient the form that the kernel computes.
-/

@[expose] public section

noncomputable section

namespace Cert.Proof.Policy

open Cert.PolicyIdeal Idealize.ShloMosaic

/-- Neither infinity. -/
def Finite (x : EReal) : Prop := x ≠ ⊤ ∧ x ≠ ⊥

theorem Finite.coe (r : ℝ) : Finite (r : EReal) := ⟨EReal.coe_ne_top r, EReal.coe_ne_bot r⟩

theorem Finite.add {x y : EReal} (hx : Finite x) (hy : Finite y) : Finite (x + y) := by
  lift x to ℝ using hx
  lift y to ℝ using hy
  exact EReal.coe_add x y ▸ Finite.coe (x + y)

theorem Finite.mul {x y : EReal} (hx : Finite x) (hy : Finite y) : Finite (x * y) := by
  lift x to ℝ using hx
  lift y to ℝ using hy
  exact EReal.coe_mul x y ▸ Finite.coe (x * y)

/-- A logit of finite arguments is finite. -/
theorem logit_finite (s : FVec Ideal S16x16384x128 .f32) (w : FVec Ideal S128x2 .f32) (b : FVec Ideal S2 .f32)
    (hs : ∀ i, Finite (s i)) (hw : ∀ i, Finite (w i)) (hb : ∀ i, Finite (b i)) (k : Fin 2) (i : Fin 16) (t : Fin 16384) :
    Finite (PolicyIdeal.logit s w b k i t) :=
  (Finset.sum_induction _ Finite (fun _ _ => Finite.add) (Finite.coe 0) fun _ _ => (hw _).mul (hs _)).add (hb _)

/-- The kernel's probability is the reference's quotient, at finite logits. -/
theorem prob_eq {a b : EReal} (ha : Finite a) (hb : Finite b) :
    PolicyIdeal.prob a b = Ideal.div (Ideal.exp (b - max a b)) (Ideal.exp (a - max a b) + Ideal.exp (b - max a b)) := by
  have e0 : Ideal.exp 0 = 1 := by
    show ((Real.exp 0 : ℝ) : EReal) = 1
    rw [Real.exp_zero]; rfl
  unfold PolicyIdeal.prob
  split
  · next h => rw [max_eq_right h, EReal.sub_self hb.1 hb.2, e0]
  · next h => rw [max_eq_left (le_of_not_ge h), EReal.sub_self ha.1 ha.2, e0]

/-- The kernel's probabilities are the reference's, at finite arguments. -/
theorem probs_eq (s : FVec Ideal S16x16384x128 .f32) (w : FVec Ideal S128x2 .f32) (b : FVec Ideal S2 .f32)
    (hs : ∀ i, Finite (s i)) (hw : ∀ i, Finite (w i)) (hb : ∀ i, Finite (b i)) : PolicyIdeal.probs s w b = PolicyRef.probs s w b := by
  have l (i : Fin 16) (t : Fin 16384) (k : Fin 2) : PolicyRef.logits s w b (ix3 i t k) = PolicyIdeal.logit s w b k i t := by
    rw [PolicyRef.logits_apply]
    exact congrArg (· + b (ix1 k)) (Finset.sum_congr rfl fun d _ => mul_comm _ _)
  funext j
  obtain ⟨i, t, rfl⟩ : ∃ (i : Fin 16) (t : Fin 16384), j = ix2 i t :=
    ⟨j 0, j 1, funext fun a => by match a with | ⟨0, _⟩ => rfl | ⟨1, _⟩ => rfl⟩
  unfold PolicyRef.probs
  rw [PolicyRef.second_apply, PolicyRef.exps_apply, PolicyRef.exps_apply, l, l]
  exact prob_eq (logit_finite s w b hs hw hb 0 _ _) (logit_finite s w b hs hw hb 1 _ _)

/-- The comparison that the precondition makes of each entry says the entry is finite. -/
theorem finite_of_olt (x : Ideal .f32) (h : FloatOps.cmpf .olt (FloatOps.hostAbsf x) (FloatOps.ofBits (F := Ideal) .f32 0x7F800000#32) = 1#1) : Finite x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  refine ⟨hlt.1.ne, fun e => ?_⟩
  have := hlt.2
  rw [e] at this
  simp at this

/-- The precondition: every state, weight and bias is finite. -/
theorem finite_of_pre (s : FVec Ideal S16x16384x128 .f32) (w : FVec Ideal S128x2 .f32) (b : FVec Ideal S2 .f32) (g : FVec Ideal S16x16384 .f32)
    (h : Cert.Pre_finite.fn (F := Ideal) s w b g = fun _ => 1#1) : (∀ i, Finite (s i)) ∧ (∀ i, Finite (w i)) ∧ (∀ i, Finite (b i)) := by
  have h0 := congrFun h ix0
  obtain ⟨h1, hb⟩ := IntOp.andi_eq_one.1 h0
  obtain ⟨hs, hw⟩ := IntOp.andi_eq_one.1 h1
  exact ⟨fun i => finite_of_olt _ (Host.reduce_andi_all _ _ _ _ _ hs i), fun i => finite_of_olt _ (Host.reduce_andi_all _ _ _ _ _ hw i),
    fun i => finite_of_olt _ (Host.reduce_andi_all _ _ _ _ _ hb i)⟩

end Cert.Proof.Policy

end
-- ==== Proof.KernelIdealArray.lean ====
module

public import proofs.«01_k».proof.Proof.Gen.KernelIdeal.Frame
public import proofs.«01_k».proof.Proof.PolicyIdealArray

/-!
The whole kernel's program holds the same TensorCore call with zeros as its noise. What the call's operands and its two result
arrays hold, in terms of the four arguments; the arithmetic is that of the call taken alone.
-/

@[expose] public section

noncomputable section

namespace Cert.Proof.KernelIdeal

open Cert.KernelIdeal Cert.KernelIdeal.Gen Idealize.ShloMosaic Idealize.ShloMosaic.TcCoe Idealize.SL.Sem
open Idealize.ShloMosaic.Pipeline (Dat)

section

variable {F : FTy → Type} [FloatOps F]

/-- The body's first result is that of the call taken alone. -/
theorem out4_eq (x0 : Vec F S16x1024x128 .f32) (x1 x2 : Vec F S8x128 .f32) (x3 : Vec F S16x1024 .f32) :
    out0_4 x0 x1 x2 x3 = Cert.PolicyIdeal.Gen.out0_4 x0 x1 x2 x3 := by
  exact rfl

set_option maxHeartbeats 1000000 in
/-- The body's second result is the first plus the noise block, element by element: each of the sixteen stored rows is. -/
theorem out5_apply (x0 : Vec F S16x1024x128 .f32) (x1 x2 : Vec F S8x128 .f32) (X : Vec F S16x1024 .f32) (y : S16x1024.Idx) :
    out0_5 x0 x1 x2 X y
      = FloatOps.addf (Cert.PolicyIdeal.Value.E4 (View.ld x0 r0_0) (View.ld x1 r0_1) (View.ld x2 r0_2) (View.ld x2 r0_3) y) (X y) := by
  unfold out0_5 k0_pay36 k0_pay35 k0_pay34
  simp only [k0_pay1, k0_pay3, k0_pay6, k0_pay8, k0_pay10, k0_pay12, k0_pay14, k0_pay16, k0_pay18, k0_pay20, k0_pay22, k0_pay24, k0_pay26, k0_pay28,
    k0_pay30, k0_pay32, shapeCast_self]
  generalize View.ld x0 r0_0 = P0
  generalize View.ld x1 r0_1 = P1
  generalize View.ld x2 r0_2 = P2
  generalize View.ld x2 r0_3 = P3
  refine View.canon_apply_of_pieces (fun y => FloatOps.addf (Cert.PolicyIdeal.Value.E4 P0 P1 P2 P3 y) (X y)) _ ?_ y (cover0_5 _ _ _ _ _ _ _ _ _ _ _ _ _ _ _ _ y)
  simp only [List.forall_mem_cons, List.not_mem_nil, false_implies, implies_true, and_true]
  have row {r : Rect S16x1024} {p : r.shape.Idx → F .f32} {q : F .f32} (x : r.shape.Idx) (h : p x = q) :
      FloatOps.addf (p x) (View.ld X r x) = FloatOps.addf q (X (r.idx x)) := by rw [h]
  exact ⟨fun x => row (r := r0_19) x (Cert.PolicyIdeal.Value.piece4_15 P0 P1 P2 P3 x), fun x => row (r := r0_18) x (Cert.PolicyIdeal.Value.piece4_14 P0 P1 P2 P3 x),
    fun x => row (r := r0_17) x (Cert.PolicyIdeal.Value.piece4_13 P0 P1 P2 P3 x), fun x => row (r := r0_16) x (Cert.PolicyIdeal.Value.piece4_12 P0 P1 P2 P3 x),
    fun x => row (r := r0_15) x (Cert.PolicyIdeal.Value.piece4_11 P0 P1 P2 P3 x), fun x => row (r := r0_14) x (Cert.PolicyIdeal.Value.piece4_10 P0 P1 P2 P3 x),
    fun x => row (r := r0_13) x (Cert.PolicyIdeal.Value.piece4_9 P0 P1 P2 P3 x), fun x => row (r := r0_12) x (Cert.PolicyIdeal.Value.piece4_8 P0 P1 P2 P3 x),
    fun x => row (r := r0_11) x (Cert.PolicyIdeal.Value.piece4_7 P0 P1 P2 P3 x), fun x => row (r := r0_10) x (Cert.PolicyIdeal.Value.piece4_6 P0 P1 P2 P3 x),
    fun x => row (r := r0_9) x (Cert.PolicyIdeal.Value.piece4_5 P0 P1 P2 P3 x), fun x => row (r := r0_8) x (Cert.PolicyIdeal.Value.piece4_4 P0 P1 P2 P3 x),
    fun x => row (r := r0_7) x (Cert.PolicyIdeal.Value.piece4_3 P0 P1 P2 P3 x), fun x => row (r := r0_6) x (Cert.PolicyIdeal.Value.piece4_2 P0 P1 P2 P3 x),
    fun x => row (r := r0_5) x (Cert.PolicyIdeal.Value.piece4_1 P0 P1 P2 P3 x), fun x => row (r := r0_4) x (Cert.PolicyIdeal.Value.piece4_0 P0 P1 P2 P3 x)⟩

/-- The body's second result is that of the call taken alone. -/
theorem out5_eq (x0 : Vec F S16x1024x128 .f32) (x1 x2 : Vec F S8x128 .f32) (x3 : Vec F S16x1024 .f32) :
    out0_5 x0 x1 x2 x3 = Cert.PolicyIdeal.Gen.out0_5 x0 x1 x2 x3 :=
  funext fun y => (out5_apply x0 x1 x2 x3 y).trans (PolicyIdeal.out5_apply x0 x1 x2 x3 y).symm

variable (m : (ℓ : Loc nD τ sig) → Buf (Elt F) ℓ) (c : Dev nD)

/-- The noise that the call reads: zeros. -/
theorem V_noise : V m c main_v0 = broadcastInDim S16x16384 ![] bcast_S_S16x16384 (constant S_ .f32 0x00000000#32) := by
  unfold V V0 hostOps0
  rw [List.flatten_cons, List.flatten_nil, List.append_nil]
  after_results <;> rfl

/-- The padded weights that the call reads. -/
theorem V_weights : V m c main_v4 = Host.scatter scatter_S8x128_S1_S2x128_01_n_0_0 (fun _ b => b)
    (broadcastInDim S8x128 ![] bcast_S_S8x128 (constant S_ .f32 0x00000000#32)) (broadcastInDim S1 ![] bcast_S_S1 (constantI S_ 32 0#32))
    (transpose S2x128 [1, 0] (m ((c : Thread nD τ).loc main_arg1)) transposes_S128x2_S2x128_1_0) := by
  unfold V V0 hostOps0
  rw [List.flatten_cons, List.flatten_nil, List.append_nil]
  after_results <;> rfl

/-- The padded biases that the call reads. -/
theorem V_biases : V m c main_v9 = Host.scatter scatter_S8x128_S2_S2_0_0_01_0 (fun _ b => b)
    (broadcastInDim S8x128 ![] bcast_S_S8x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (m ((c : Thread nD τ).loc main_arg2)) := by
  unfold V V0 hostOps0
  rw [List.flatten_cons, List.flatten_nil, List.append_nil]
  after_results <;> rfl

end

variable (m : (ℓ : Loc nD τ sig) → Buf (Elt Ideal) ℓ) (c : Dev nD)

/-- Row `k` of the padded weights is column `k` of the weights. -/
theorem weights_apply (k : Fin 2) (d : Fin 128) :
    V m c main_v4 (ix2 (⟨k.val, by omega⟩ : Fin 8) d) = m ((c : Thread nD τ).loc main_arg1) (ix2 d k) := by
  rw [V_weights]
  refine (PolicyIdeal.scatter_rows _ _ (fun _ => rfl) _ k d).trans ?_
  pointwise

/-- Column `k` of the padded biases' row 0 is bias `k`. -/
theorem biases_apply (k : Fin 2) :
    V m c main_v9 (ix2 (0 : Fin 8) (⟨k.val, by omega⟩ : Fin 128)) = m ((c : Thread nD τ).loc main_arg2) (ix1 k) := by
  rw [V_biases]
  refine PolicyIdeal.scatter_head _ _ (fun j => ?_) _ k
  pointwise
  exact ite_self _

theorem idx0 : ∀ t : Fin cfg0.N, win0_0.index t = ![0, t.val, 0] := (by decide +kernel : ∀ t : Fin grid0.N, win0_0.index t = ![0, t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, t.val] := (by decide +kernel : ∀ t : Fin grid0.N, win0_3.index t = ![0, t.val])
theorem idx4 : ∀ t : Fin cfg0.N, win0_4.index t = ![0, t.val] := (by decide +kernel : ∀ t : Fin grid0.N, win0_4.index t = ![0, t.val])
theorem idx5 : ∀ t : Fin cfg0.N, win0_5.index t = ![0, t.val] := (by decide +kernel : ∀ t : Fin grid0.N, win0_5.index t = ![0, t.val])

/-- Column `j` of block `t` in the whole array. -/
def colOf (t : Fin cfg0.N) (j : Fin 1024) : Fin 16384 := ⟨t.val * 1024 + j.val, by have : t.val < 16 := t.isLt; omega⟩

theorem emb4 (t : Fin cfg0.N) (y : S16x1024.Idx) : ((win0_4.blk t).view.emb y : S16x16384.Idx) = ix2 (y 0) (colOf t (y 1)) := by
  blk_ext [idx4 t, colOf]

theorem emb5 (t : Fin cfg0.N) (y : S16x1024.Idx) : ((win0_5.blk t).view.emb y : S16x16384.Idx) = ix2 (y 0) (colOf t (y 1)) := by
  blk_ext [idx5 t, colOf]

/-- The state block of grid point `t`. -/
theorem states_block (t : Fin cfg0.N) (i : Fin 16) (j : Fin 1024) (d : Fin 128) :
    (iblk m c 0 t : S16x1024x128.Idx → EReal) (ix3 i j d) = m ((c : Thread nD τ).loc main_arg0) (ix3 i (colOf t j) d) := by
  blk_simp [iblk]
  rw [V_main_arg0]
  refine congrArg _ ?_
  blk_ext [idx0 t, colOf]

/-- The noise block of grid point `t`. -/
theorem noise_block (t : Fin cfg0.N) (y : S16x1024.Idx) :
    (iblk m c 3 t : S16x1024.Idx → EReal) y = V m c main_v0 (ix2 (y 0) (colOf t (y 1))) := by
  blk_simp [iblk]
  refine congrArg _ ?_
  blk_ext [idx3 t, colOf]

/-- The weights' block is the whole padded array. -/
theorem weights_block (t : Fin cfg0.N) (y : S8x128.Idx) : (iblk m c 1 t : S8x128.Idx → EReal) y = V m c main_v4 y := by
  blk_simp [iblk]
  refine congrArg _ ?_
  blk_ext [idx1 t]

/-- The biases' block is the whole padded array. -/
theorem biases_block (t : Fin cfg0.N) (y : S8x128.Idx) : (iblk m c 2 t : S8x128.Idx → EReal) y = V m c main_v9 y := by
  blk_simp [iblk]
  refine congrArg _ ?_
  blk_ext [idx2 t]

/-- A logit of block `t` is the logit of the arguments at that block's row and column. -/
theorem blockLogit_eq (t : Fin cfg0.N) (k : Fin 2) (y : S16x1024.Idx) :
    PolicyIdeal.blockLogit (iblk m c 0 t) (iblk m c 1 t) (iblk m c 2 t) ⟨k.val, by omega⟩ ⟨k.val, by omega⟩ y
      = PolicyIdeal.logit (m ((c : Thread nD τ).loc main_arg0)) (m ((c : Thread nD τ).loc main_arg1)) (m ((c : Thread nD τ).loc main_arg2)) k (y 0) (colOf t (y 1)) := by
  unfold PolicyIdeal.blockLogit PolicyIdeal.logit
  refine congrArg₂ (· + ·) (Finset.sum_congr rfl fun d _ => congrArg₂ (· * ·) ?_ (states_block m c t _ _ d)) ?_
  · exact (weights_block m c t _).trans (weights_apply m c k d)
  · exact (biases_block m c t _).trans (biases_apply m c k)

/-- The first result array after the region: the probabilities. -/
theorem final4 : (dats m 0 c).arrAt 4 cfg0.N
    = PolicyIdeal.probs (m ((c : Thread nD τ).loc main_arg0)) (m ((c : Thread nD τ).loc main_arg1)) (m ((c : Thread nD τ).loc main_arg2)) := by
  refine Dat.arrAt_eq_of_covers (dats m 0 c) 4 _ (by decide +kernel) fun t hf y => ?_
  blk_simp
  rw [after0_4, out4_eq, (PolicyIdeal.out_eq _ _ _ _ _).1]
  erw [emb4]
  exact congrArg₂ PolicyIdeal.prob (blockLogit_eq m c t 0 y) (blockLogit_eq m c t 1 y)

/-- The second result array after the region: the probabilities plus the zero noise. -/
theorem final5 : (dats m 0 c).arrAt 5 cfg0.N
    = addf (PolicyIdeal.probs (m ((c : Thread nD τ).loc main_arg0)) (m ((c : Thread nD τ).loc main_arg1)) (m ((c : Thread nD τ).loc main_arg2)))
        (broadcastInDim S16x16384 ![] bcast_S_S16x16384 (constant S_ .f32 0x00000000#32)) := by
  refine Dat.arrAt_eq_of_covers (dats m 0 c) 5 _ (by decide +kernel) fun t hf y => ?_
  blk_simp
  rw [after0_5, out5_eq, (PolicyIdeal.out_eq _ _ _ _ _).2]
  erw [emb5]
  exact congrArg₂ (· + ·) (congrArg₂ PolicyIdeal.prob (blockLogit_eq m c t 0 y) (blockLogit_eq m c t 1 y))
    ((noise_block m c t y).trans (congrFun (V_noise m c) _))

end Cert.Proof.KernelIdeal

end
-- ==== Proof.KernelMath.lean ====
module

public import proofs.«01_k».proof.Proof.KernelIdealArray
public import proofs.«01_k».proof.Proof.PolicyMath
public import proofs.«01_k».proof.Proof.Gen.KernelRefIdeal.Run
public import proofs.«01_k».proof.Proof.Gen.Pre_finite_args

/-!
The whole kernel against its reference. The first result is the call's probabilities. The second is a row of zeros plus the first
score converted to an integer: a probability of finite logits lies from zero up to, not including, one, so it converts to zero.
-/

@[expose] public section

noncomputable section

namespace Cert.Proof.Kernel

open Cert.KernelIdeal Cert.KernelIdeal.Gen Idealize.ShloMosaic Idealize.ShloMosaic.TcCoe Idealize.SL.Sem
open Cert.Proof.Policy (Finite)

/-- The quotient of two real numbers, the divisor positive. -/
theorem div_coe (x y : ℝ) (hy : 0 < y) : Ideal.div (x : EReal) (y : EReal) = ((x / y : ℝ) : EReal) := by
  unfold Ideal.div
  rw [if_neg (by exact_mod_cast hy.ne'), div_eq_mul_inv, EReal.coe_mul, EReal.coe_inv]

/-- A probability of finite logits is a real number from zero up to, not including, one. -/
theorem prob_range {a b : EReal} (ha : Finite a) (hb : Finite b) : ∃ r : ℝ, PolicyIdeal.prob a b = (r : EReal) ∧ 0 ≤ r ∧ r < 1 := by
  lift a to ℝ using ha
  lift b to ℝ using hb
  unfold PolicyIdeal.prob
  split
  · refine ⟨1 / (Real.exp (a - b) + 1), div_coe 1 (Real.exp (a - b) + 1) (by positivity), by positivity, ?_⟩
    rw [div_lt_one (by positivity)]
    linarith [Real.exp_pos (a - b)]
  · refine ⟨Real.exp (b - a) / (1 + Real.exp (b - a)), div_coe (Real.exp (b - a)) (1 + Real.exp (b - a)) (by positivity), by positivity, ?_⟩
    rw [div_lt_one (by positivity)]
    linarith

/-- Such a number converts to the integer zero. -/
theorem fptosi_prob {a b : EReal} (ha : Finite a) (hb : Finite b) : Ideal.fptosi 32 (PolicyIdeal.prob a b + Ideal.ofBits .f32 0x00000000#32) = 0#32 := by
  obtain ⟨r, e, h0, h1⟩ := prob_range ha hb
  have hz : Ideal.ofBits .f32 0x00000000#32 = 0 := by simp [Ideal.ofBits, Ideal.ieee]
  have hf : ⌊r⌋ = 0 := Int.floor_eq_zero_iff.2 ⟨h0, h1⟩
  rw [hz, add_zero, e]
  unfold Ideal.fptosi
  rw [Ideal.toIntClamped_coe, if_pos h0, hf]
  rfl

/-- What the program's last lines make of the array of scores: a row of zeros plus the first score converted to an integer. -/
def firstWord {F : FTy → Type} [FloatOps F] (x : FVec F S16x16384 .f32) : IVec S16 32 :=
  addi (broadcastInDim S16 ![] bcast_S_S16 (constantI S_ 32 0#32))
    (broadcastInDim S16 ![] bcast_S_S16
      (fptosi 32 (shapeCast S_ (extractStridedSlice S1x1 ![0, 0] x slices_S16x16384_S1x1_0_0 : FVec F S1x1 .f32) shapeCasts_S1x1_S_ : FVec F S_ .f32)))

/-- A row of zeros. -/
def zeros : IVec S16 32 := broadcastInDim S16 ![] bcast_S_S16 (constantI S_ 32 0#32)

/-- The score that the last lines convert is the one in the first row and column. -/
theorem firstWord_apply (x : FVec Ideal S16x16384 .f32) (i : Fin 16) :
    firstWord x (ix1 i) = 0#32 + Ideal.fptosi 32 (x (ix2 (0 : Fin 16) (0 : Fin 16384))) := by
  pointwise [firstWord]
  rfl

/-- At finite arguments the last lines leave zeros. -/
theorem firstWord_eq (s : FVec Ideal S16x16384x128 .f32) (w : FVec Ideal S128x2 .f32) (b : FVec Ideal S2 .f32)
    (hs : ∀ i, Finite (s i)) (hw : ∀ i, Finite (w i)) (hb : ∀ i, Finite (b i)) :
    firstWord (addf (PolicyIdeal.probs s w b) (broadcastInDim S16x16384 ![] bcast_S_S16x16384 (constant S_ .f32 0x00000000#32))) = zeros := by
  funext j
  obtain ⟨i, rfl⟩ : ∃ i : Fin 16, j = ix1 i := ⟨j 0, funext fun a => by match a with | ⟨0, _⟩ => rfl⟩
  rw [firstWord_apply]
  exact congrArg (0#32 + ·) (fptosi_prob (Policy.logit_finite s w b hs hw hb 0 0 0) (Policy.logit_finite s w b hs hw hb 1 0 0))

/-- The second result after the run, from the second array that the region leaves. -/
theorem tail_eq {F : FTy → Type} [FloatOps F] (m : (ℓ : Loc nD τ sig) → Buf (Elt F) ℓ) (c : Dev nD) :
    Pipeline.afterTail₀ cfgs (dats m) 0 (V0 m) [hostOps1] c main_v16 = firstWord ((dats m 0 c).arrAt 5 cfg0.N) := by
  have e : Pipeline.withArrays spec0 c (V0 m c) (fun w => (dats m 0 c).arrAt w cfg0.N) (Proc.devRef .tc main_v10_1) = (dats m 0 c).arrAt 5 cfg0.N :=
    Pipeline.withArrays_arr spec0 launch0.win.arr_inj c (V0 m c) (fun w => (dats m 0 c).arrAt w cfg0.N) 5
  rw [← e]
  unfold Pipeline.afterTail₀ hostOps1 firstWord
  rw [List.flatten_cons, List.flatten_nil, List.append_nil]
  after_results <;> rfl

/-- The precondition: every state, weight and bias is finite. -/
theorem finite_of_pre (s : FVec Ideal S16x16384x128 .f32) (w : FVec Ideal S128x2 .f32) (b : FVec Ideal S2 .f32) (n : IVec S_ 32)
    (h : Cert.Pre_finite_args.fn (F := Ideal) s w b n = fun _ => 1#1) : (∀ i, Finite (s i)) ∧ (∀ i, Finite (w i)) ∧ (∀ i, Finite (b i)) := by
  have h0 := congrFun h ix0
  obtain ⟨h1, hb⟩ := IntOp.andi_eq_one.1 h0
  obtain ⟨hs, hw⟩ := IntOp.andi_eq_one.1 h1
  exact ⟨fun i => Policy.finite_of_olt _ (Host.reduce_andi_all _ _ _ _ _ hs i), fun i => Policy.finite_of_olt _ (Host.reduce_andi_all _ _ _ _ _ hw i),
    fun i => Policy.finite_of_olt _ (Host.reduce_andi_all _ _ _ _ _ hb i)⟩

/-- The run of the whole kernel: its two results from its arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10_0)
          = PolicyIdeal.probs (m ((c.tc : Thread nD τ).loc main_arg0)) (m ((c.tc : Thread nD τ).loc main_arg1)) (m ((c.tc : Thread nD τ).loc main_arg2))
      ∧ r.2.mem ((c.tc : Thread nD τ).loc main_v16)
          = firstWord (addf (PolicyIdeal.probs (m ((c.tc : Thread nD τ).loc main_arg0)) (m ((c.tc : Thread nD τ).loc main_arg1)) (m ((c.tc : Thread nD τ).loc main_arg2)))
              (broadcastInDim S16x16384 ![] bcast_S_S16x16384 (constant S_ .f32 0x00000000#32)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 4).trans (KernelIdeal.final4 m c),
      ((h c).2 main_v16 (Pipeline.mem_restRefs_of main_v16 (by decide) (by decide))).trans ((tail_eq m c).trans (congrArg firstWord (KernelIdeal.final5 m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

/-- The run of the reference's program: the reference's probabilities and a row of zeros. -/
theorem ref_run (m : (ℓ : Loc Cert.KernelRefIdeal.nD Cert.KernelRefIdeal.τ Cert.KernelRefIdeal.sig) → Buf (Elt Ideal) ℓ) (ρ : Dev Cert.KernelRefIdeal.nD → PrngReg) :
    θ_run Cert.KernelRefIdeal.defs (onTc (τ := Cert.KernelRefIdeal.τ) (Cert.KernelRefIdeal.main (F := Ideal))) ⟨m, fun _ => 0, ρ⟩
      fun r => ∀ c : Dev Cert.KernelRefIdeal.nD,
      r.2.mem ((c.tc : Thread Cert.KernelRefIdeal.nD Cert.KernelRefIdeal.τ).loc Cert.KernelRefIdeal.main_v16)
          = PolicyRef.probs (m ((c.tc : Thread Cert.KernelRefIdeal.nD Cert.KernelRefIdeal.τ).loc Cert.KernelRefIdeal.main_arg0))
              (m ((c.tc : Thread Cert.KernelRefIdeal.nD Cert.KernelRefIdeal.τ).loc Cert.KernelRefIdeal.main_arg1))
              (m ((c.tc : Thread Cert.KernelRefIdeal.nD Cert.KernelRefIdeal.τ).loc Cert.KernelRefIdeal.main_arg2))
      ∧ r.2.mem ((c.tc : Thread Cert.KernelRefIdeal.nD Cert.KernelRefIdeal.τ).loc Cert.KernelRefIdeal.main_v17) = zeros
      ∧ r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0)
      ∧ r.2.mem ((c.tc : Thread Cert.KernelRefIdeal.nD Cert.KernelRefIdeal.τ).loc Cert.KernelRefIdeal.main_arg1) = m ((c.tc : Thread Cert.KernelRefIdeal.nD Cert.KernelRefIdeal.τ).loc Cert.KernelRefIdeal.main_arg1)
      ∧ r.2.mem ((c.tc : Thread Cert.KernelRefIdeal.nD Cert.KernelRefIdeal.τ).loc Cert.KernelRefIdeal.main_arg2) = m ((c.tc : Thread Cert.KernelRefIdeal.nD Cert.KernelRefIdeal.τ).loc Cert.KernelRefIdeal.main_arg2)
      ∧ r.2.mem ((c.tc : Thread Cert.KernelRefIdeal.nD Cert.KernelRefIdeal.τ).loc Cert.KernelRefIdeal.main_arg3) = m ((c.tc : Thread Cert.KernelRefIdeal.nD Cert.KernelRefIdeal.τ).loc Cert.KernelRefIdeal.main_arg3) :=
  Cert.KernelRefIdeal.Value.run (F := Ideal) m ρ

end Cert.Proof.Kernel

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelRefIdeal
public import proofs.«01_k».proof.Proof.Gen.KernelRefIdeal.Run
public import proofs.«01_k».proof.Proof.Gen.Policy
public import proofs.«01_k».proof.Proof.Gen.Policy.Skeleton
public import proofs.«01_k».proof.Proof.Gen.Policy.Launch
public import proofs.«01_k».proof.Proof.Gen.Policy.Points
public import proofs.«01_k».proof.Proof.Gen.Policy.Frame
public import proofs.«01_k».proof.Proof.Gen.PolicyIdeal
public import proofs.«01_k».proof.Proof.Gen.PolicyIdeal.Skeleton
public import proofs.«01_k».proof.Proof.Gen.PolicyIdeal.Launch
public import proofs.«01_k».proof.Proof.Gen.PolicyIdeal.Points
public import proofs.«01_k».proof.Proof.Gen.PolicyIdeal.Frame
public import proofs.«01_k».proof.Proof.Gen.PolicyIdeal.Value
public import proofs.«01_k».proof.Proof.Gen.PolicyRefIdeal
public import proofs.«01_k».proof.Proof.Gen.PolicyRefIdeal.Run
public import proofs.«01_k».proof.Proof.Gen.Argmax
public import proofs.«01_k».proof.Proof.Gen.Argmax.Skeleton
public import proofs.«01_k».proof.Proof.Gen.ArgmaxIdeal
public import proofs.«01_k».proof.Proof.Gen.ArgmaxIdeal.Skeleton
public import proofs.«01_k».proof.Proof.Gen.ArgmaxRefIdeal
public import proofs.«01_k».proof.Proof.Gen.Pre_finite_args
public import proofs.«01_k».proof.Proof.Gen.Pre_finite
public import proofs.«01_k».proof.Proof.ArgmaxTile
public import proofs.«01_k».proof.Proof.ArgmaxIdealTile
public import proofs.«01_k».proof.Proof.ArgmaxRefRun
public import proofs.«01_k».proof.Proof.ArgmaxMath
public import proofs.«01_k».proof.Proof.PolicyMath
public import proofs.«01_k».proof.Proof.KernelMath
public import Idealize.ShloMosaic.Adequacy
public import Idealize.ShloMosaic.Init

@[expose] public section

noncomputable section

namespace Cert.Proof

open Idealize.ShloMosaic Idealize.SL.Sem Cert.Kernel

/-- The reference for the probabilities: its run leaves the arguments as they were. -/
theorem policyRef_frame : Cert.quiescent_PolicyRefIdeal := fun m ρ _ =>
  (θ_run Cert.PolicyRefIdeal.defs _ _).mono (fun r h => ⟨fun c => (h c).2.2, sem_eq_zero_of_no_sems (by decide) r.2⟩)
    (Cert.Proof.PolicyRef.run m ρ)

/-- The reference for the row-wise maximum: its run leaves the argument as it was. -/
theorem argmaxRef_frame : Cert.quiescent_ArgmaxRefIdeal := fun m ρ _ =>
  (θ_run Cert.ArgmaxRefIdeal.defs _ _).mono (fun r h => ⟨fun c => (h c).2, sem_eq_zero_of_no_sems (by decide) r.2⟩)
    (Cert.Proof.ArgmaxRef.run (F := Ideal) m ρ)

/-- The SparseCore call over 32-bit floats: its run leaves the scores as they were and every counter at zero. -/
theorem argmax_frame : Cert.quiescent_Argmax := fun m ρ _ =>
  (θ_run Cert.Argmax.defs _ _).mono (fun _ h => ⟨fun c => (h.1 c).1, h.2⟩) (Cert.Proof.Argmax.run_main (F := Bits) m ρ)

/-- The SparseCore call over the extended reals: its run leaves the scores as they were and every counter at zero. -/
theorem argmaxIdeal_frame : Cert.quiescent_ArgmaxIdeal := fun m ρ _ =>
  (θ_run Cert.ArgmaxIdeal.defs _ _).mono (fun _ h => ⟨fun c => (h.1 c).1, h.2⟩) (Cert.Proof.ArgmaxIdeal.run_main (F := Ideal) m ρ)

/-- The TensorCore call and its reference, from the same finite states, weights and biases and the same noise, end with the same
probabilities and the same scores. -/
theorem policy_algebraic : Cert.algebraic_PolicyIdeal_PolicyRefIdeal_pre_finite := fun m g m' g' hpre hm =>
  ⟨fun c => Cert.Proof.PolicyIdeal.probs (m ((c.tc : Thread Cert.PolicyIdeal.nD Cert.PolicyIdeal.τ).loc Cert.PolicyIdeal.main_arg0))
      (m ((c.tc : Thread Cert.PolicyIdeal.nD Cert.PolicyIdeal.τ).loc Cert.PolicyIdeal.main_arg1))
      (m ((c.tc : Thread Cert.PolicyIdeal.nD Cert.PolicyIdeal.τ).loc Cert.PolicyIdeal.main_arg2)),
    fun c => addf (Cert.Proof.PolicyIdeal.probs (m ((c.tc : Thread Cert.PolicyIdeal.nD Cert.PolicyIdeal.τ).loc Cert.PolicyIdeal.main_arg0))
      (m ((c.tc : Thread Cert.PolicyIdeal.nD Cert.PolicyIdeal.τ).loc Cert.PolicyIdeal.main_arg1))
      (m ((c.tc : Thread Cert.PolicyIdeal.nD Cert.PolicyIdeal.τ).loc Cert.PolicyIdeal.main_arg2)))
      (m ((c.tc : Thread Cert.PolicyIdeal.nD Cert.PolicyIdeal.τ).loc Cert.PolicyIdeal.main_arg3)),
    (θ_run Cert.PolicyIdeal.defs _ _).mono
      (fun _ h c => ⟨(h c).1.trans (Cert.Proof.PolicyIdeal.final4 m c), (h c).2.1.trans (Cert.Proof.PolicyIdeal.final5 m c), (h c).2.2⟩)
      (Cert.PolicyIdeal.Value.run_blocks (F := Ideal) m g),
    (θ_run Cert.PolicyRefIdeal.defs _ _).mono
      (fun _ h c => by
        obtain ⟨e0, e1, e2, e3⟩ := hm c
        obtain ⟨hs, hw, hb⟩ := Cert.Proof.Policy.finite_of_pre _ _ _ _ (hpre c)
        obtain ⟨h0, h1, h2⟩ := h c
        rw [e0, e1, e2] at h0
        rw [e0, e1, e2, e3] at h1
        have e := Cert.Proof.Policy.probs_eq _ _ _ hs hw hb
        exact ⟨h0.trans e.symm, h1.trans (congrArg (fun p => addf p _) e.symm), h2⟩)
      (Cert.Proof.PolicyRef.run m' g')⟩

/-- The SparseCore call and its reference, from the same scores, end with the same column numbers. -/
theorem argmax_algebraic : Cert.algebraic_ArgmaxIdeal_ArgmaxRefIdeal := fun m g m' g' _ hm =>
  ⟨fun c => Cert.Proof.ArgmaxIdeal.answers (F := Ideal) (m ((c.tc : Thread Cert.ArgmaxIdeal.nD Cert.ArgmaxIdeal.τ).loc Cert.ArgmaxIdeal.main_arg0)),
    (θ_run Cert.ArgmaxIdeal.defs _ _).mono (fun _ h c => ⟨(h.1 c).2, (h.1 c).1⟩) (Cert.Proof.ArgmaxIdeal.run_main (F := Ideal) m g),
    (θ_run Cert.ArgmaxRefIdeal.defs _ _).mono
      (fun _ h c => ⟨((h c).1.trans (congrArg Cert.Proof.ArgmaxRef.result (hm c))).trans (Cert.Proof.Argmax.answers_eq_result _).symm, (h c).2⟩)
      (Cert.Proof.ArgmaxRef.run (F := Ideal) m' g')⟩

/-- The reference for the whole kernel: its run leaves the arguments as they were. -/
theorem kernelRef_frame : Cert.quiescent_KernelRefIdeal := fun m ρ _ =>
  (θ_run Cert.KernelRefIdeal.defs _ _).mono (fun r h => ⟨fun c => (h c).2.2, sem_eq_zero_of_no_sems (by decide) r.2⟩)
    (Cert.Proof.Kernel.ref_run m ρ)

/-- The whole kernel and its reference, from the same finite states, weights and biases and the same number of actions, end with
the same probabilities and, both, a row of zeros. -/
theorem kernel_algebraic : Cert.algebraic_KernelIdeal_KernelRefIdeal_pre_finite_args := fun m g m' g' hpre hm =>
  ⟨fun c => Cert.Proof.PolicyIdeal.probs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun _ => Cert.Proof.Kernel.zeros,
    (θ_run Cert.KernelIdeal.defs _ _).mono
      (fun _ h c => by
        obtain ⟨hs, hw, hb⟩ := Cert.Proof.Kernel.finite_of_pre _ _ _ _ (hpre c)
        obtain ⟨h0, h1, h2⟩ := h c
        exact ⟨h0, h1.trans (Cert.Proof.Kernel.firstWord_eq _ _ _ hs hw hb), h2⟩)
      (Cert.Proof.Kernel.run m g),
    (θ_run Cert.KernelRefIdeal.defs _ _).mono
      (fun _ h c => by
        obtain ⟨e0, e1, e2, _⟩ := hm c
        obtain ⟨hs, hw, hb⟩ := Cert.Proof.Kernel.finite_of_pre _ _ _ _ (hpre c)
        obtain ⟨h0, h1, h2⟩ := h c
        rw [e0, e1, e2] at h0
        exact ⟨h0.trans (Cert.Proof.Policy.probs_eq _ _ _ hs hw hb).symm, h1, h2⟩)
      (Cert.Proof.Kernel.ref_run m' g')⟩

theorem claim : Cert.Claim :=
  ⟨Cert.Kernel.Gen.facts, Cert.KernelIdeal.Gen.facts, Cert.KernelRefIdeal.Gen.facts, Cert.Policy.Gen.facts, Cert.PolicyIdeal.Gen.facts,
    Cert.PolicyRefIdeal.Gen.facts, Cert.Argmax.Gen.facts, Cert.ArgmaxIdeal.Gen.facts, Cert.ArgmaxRefIdeal.Gen.facts,
    Cert.Pre_finite_args.Gen.facts, Cert.Pre_finite.Gen.facts,
    fun m ρ _ => Cert.Kernel.Gen.frame m ρ, fun m ρ _ => Cert.KernelIdeal.Gen.frame m ρ, fun m ρ _ => Cert.KernelIdeal.Gen.frame m ρ,
    kernelRef_frame, fun m ρ _ => kernelRef_frame m ρ trivial,
    fun m ρ _ => Cert.Policy.Gen.frame m ρ, fun m ρ _ => Cert.PolicyIdeal.Gen.frame m ρ, fun m ρ _ => Cert.PolicyIdeal.Gen.frame m ρ,
    policyRef_frame, fun m ρ _ => policyRef_frame m ρ trivial, argmax_frame, argmaxIdeal_frame, argmaxRef_frame,
    trivial, kernel_algebraic, trivial, policy_algebraic, trivial, argmax_algebraic⟩

end Cert.Proof

end
